-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1000000 : Shape := ⟨2, ![32, 1000000]⟩
abbrev S2x4x16 : Shape := ⟨3, ![2, 4, 16]⟩
abbrev S16x4096 : Shape := ⟨2, ![16, 4096]⟩
abbrev S1x4x16 : Shape := ⟨3, ![1, 4, 16]⟩
abbrev S4x16x128 : Shape := ⟨3, ![4, 16, 128]⟩
abbrev S1x16x128 : Shape := ⟨3, ![1, 16, 128]⟩
abbrev S16x128 : Shape := ⟨2, ![16, 128]⟩
abbrev S16x512 : Shape := ⟨2, ![16, 512]⟩
abbrev S16 : Shape := ⟨1, ![16]⟩
abbrev S16x1 : Shape := ⟨2, ![16, 1]⟩
abbrev S1x1x16 : Shape := ⟨3, ![1, 1, 16]⟩
abbrev S4x2x16 : Shape := ⟨3, ![4, 2, 16]⟩
abbrev S4x32 : Shape := ⟨2, ![4, 32]⟩

abbrev nBuf : Space → Nat
  | .hbm => 4
  | .vmem => 6
  | .smem => 0
  | _ => 0

abbrev bufTy : (tb : Table) → Fin (tcTables nBuf tb) → BufTy
  | .hbm, ⟨0, _⟩ => ⟨S32x1000000, .f32⟩
  | .hbm, ⟨1, _⟩ => ⟨S2x4x16, .i32⟩
  | .hbm, ⟨2, _⟩ => ⟨S4x2x16, .i32⟩
  | .hbm, ⟨3, _⟩ => ⟨S4x32, .i32⟩
  | .local _ .vmem, ⟨0, _⟩ => ⟨S16x4096, .f32⟩
  | .local _ .vmem, ⟨1, _⟩ => ⟨S16x4096, .f32⟩
  | .local _ .vmem, ⟨2, _⟩ => ⟨S1x4x16, .i32⟩
  | .local _ .vmem, ⟨3, _⟩ => ⟨S1x4x16, .i32⟩
  | .local _ .vmem, ⟨4, _⟩ => ⟨S4x16x128, .f32⟩
  | .local _ .vmem, ⟨5, _⟩ => ⟨S4x16x128, .i32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 245], ![false, false]⟩

def k0_cond2 (i : grid0.Coords) : BitVec 1 :=
  let arg1 : BitVec 32 := BitVec.ofNat 32 (i 1).val
  let c244_i32 : BitVec 32 := 244#32
  let v7179 : BitVec 1 := Scalar.cmpi .eq arg1 c244_i32
  let v7180 : BitVec 32 := Scalar.extui v7179
  let c0_i32_2410 : BitVec 32 := 0#32
  let v7181 : BitVec 1 := Scalar.cmpi .ne v7180 c0_i32_2410
  v7181

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]
-- ==== ReferenceIdeal.lean ====
abbrev S32x1000000 : Shape := ⟨2, ![32, 1000000]⟩
abbrev S4 : Shape := ⟨1, ![4]⟩
abbrev S_ : Shape := ⟨0, ![]⟩
abbrev S1 : Shape := ⟨1, ![1]⟩
abbrev S2 : Shape := ⟨1, ![2]⟩
abbrev S4x1 : Shape := ⟨2, ![4, 1]⟩
abbrev S4x2 : Shape := ⟨2, ![4, 2]⟩
abbrev S1x32x1000000 : Shape := ⟨3, ![1, 32, 1000000]⟩
abbrev S4x1x1 : Shape := ⟨3, ![4, 1, 1]⟩
abbrev S4x32x1000000 : Shape := ⟨3, ![4, 32, 1000000]⟩
abbrev S4x32 : Shape := ⟨2, ![4, 32]⟩

abbrev nBuf : Space → Nat
  | .hbm => 523
  | .vmem => 0
  | .smem => 0
  | _ => 0

abbrev hbmTy0_0 (i : Nat) : BufTy := match i % 128 with
  | 0 => ⟨S32x1000000, .f32⟩
  | 1 => ⟨S4, .i32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .i32⟩
  | 13 => ⟨S4, .i32⟩
  | 14 => ⟨S4, .i32⟩
  | 15 => ⟨S4x1, .i32⟩
  | 16 => ⟨S_, .i32⟩
  | 17 => ⟨S4, .i32⟩
  | 18 => ⟨S4, .i32⟩
  | 19 => ⟨S4x1, .i32⟩
  | 20 => ⟨S4x2, .i32⟩
  | 21 => ⟨S1, .i32⟩
  | 22 => ⟨S_, .i32⟩
  | 23 => ⟨S1, .i32⟩
  | 24 => ⟨S_, .i32⟩
  | 25 => ⟨S4x1, .i32⟩
  | 26 => ⟨S4x1, .i32⟩
  | 27 => ⟨S_, .i32⟩
  | 28 => ⟨S_, .i32⟩
  | 29 => ⟨S_, .i32⟩
  | 30 => ⟨S4x1, .i32⟩
  | 31 => ⟨S4x1, .i32⟩
  | 32 => ⟨S4x1, .i32⟩
  | 33 => ⟨S4x1, .i32⟩
  | 34 => ⟨S4x1, .i32⟩
  | 35 => ⟨S_, .i32⟩
  | 36 => ⟨S4x1, .i32⟩
  | 37 => ⟨S4x1, .i32⟩
  | 38 => ⟨S_, .i32⟩
  | 39 => ⟨S4x1, .i32⟩
  | 40 => ⟨S4x1, .i32⟩
  | 41 => ⟨S4x1, .i32⟩
  | 42 => ⟨S4x1, .i32⟩
  | 43 => ⟨S4x1, .i32⟩
  | 44 => ⟨S_, .i32⟩
  | 45 => ⟨S4x1, .i32⟩
  | 46 => ⟨S4x1, .i32⟩
  | 47 => ⟨S_, .i32⟩
  | 48 => ⟨S4x1, .i32⟩
  | 49 => ⟨S4x1, .i32⟩
  | 50 => ⟨S4x1, .i32⟩
  | 51 => ⟨S4x1, .i32⟩
  | 52 => ⟨S4x1, .i32⟩
  | 53 => ⟨S_, .i32⟩
  | 54 => ⟨S4x1, .i32⟩
  | 55 => ⟨S4x1, .i32⟩
  | 56 => ⟨S_, .i32⟩
  | 57 => ⟨S4x1, .i32⟩
  | 58 => ⟨S4x1, .i32⟩
  | 59 => ⟨S4x1, .i32⟩
  | 60 => ⟨S4x1, .i32⟩
  | 61 => ⟨S4x1, .i32⟩
  | 62 => ⟨S_, .i32⟩
  | 63 => ⟨S4x1, .i32⟩
  | 64 => ⟨S4x1, .i32⟩
  | 65 => ⟨S_, .i32⟩
  | 66 => ⟨S4x1, .i32⟩
  | 67 => ⟨S4x1, .i32⟩
  | 68 => ⟨S4x1, .i32⟩
  | 69 => ⟨S4x1, .i32⟩
  | 70 => ⟨S4x1, .i32⟩
  | 71 => ⟨S4x1, .i32⟩
  | 72 => ⟨S4x1, .i32⟩
  | 73 => ⟨S4x1, .i32⟩
  | 74 => ⟨S_, .i32⟩
  | 75 => ⟨S4x1, .i32⟩
  | 76 => ⟨S4x1, .i32⟩
  | 77 => ⟨S4x1, .i32⟩
  | 78 => ⟨S_, .i32⟩
  | 79 => ⟨S4x1, .i32⟩
  | 80 => ⟨S4x1, .i32⟩
  | 81 => ⟨S_, .i32⟩
  | 82 => ⟨S4x1, .i32⟩
  | 83 => ⟨S4x1, .i32⟩
  | 84 => ⟨S4x1, .i32⟩
  | 85 => ⟨S4x1, .i32⟩
  | 86 => ⟨S4x1, .i32⟩
  | 87 => ⟨S_, .i32⟩
  | 88 => ⟨S4x1, .i32⟩
  | 89 => ⟨S4x1, .i32⟩
  | 90 => ⟨S_, .i32⟩
  | 91 => ⟨S4x1, .i32⟩
  | 92 => ⟨S4x1, .i32⟩
  | 93 => ⟨S4x1, .i32⟩
  | 94 => ⟨S4x1, .i32⟩
  | 95 => ⟨S4x1, .i32⟩
  | 96 => ⟨S_, .i32⟩
  | 97 => ⟨S4x1, .i32⟩
  | 98 => ⟨S4x1, .i32⟩
  | 99 => ⟨S_, .i32⟩
  | 100 => ⟨S4x1, .i32⟩
  | 101 => ⟨S4x1, .i32⟩
  | 102 => ⟨S4x1, .i32⟩
  | 103 => ⟨S4x1, .i32⟩
  | 104 => ⟨S4x1, .i32⟩
  | 105 => ⟨S_, .i32⟩
  | 106 => ⟨S4x1, .i32⟩
  | 107 => ⟨S4x1, .i32⟩
  | 108 => ⟨S_, .i32⟩
  | 109 => ⟨S4x1, .i32⟩
  | 110 => ⟨S4x1, .i32⟩
  | 111 => ⟨S4x1, .i32⟩
  | 112 => ⟨S4x1, .i32⟩
  | 113 => ⟨S4x1, .i32⟩
  | 114 => ⟨S4x1, .i32⟩
  | 115 => ⟨S4x1, .i32⟩
  | 116 => ⟨S4x1, .i32⟩
  | 117 => ⟨S_, .i32⟩
  | 118 => ⟨S4x1, .i32⟩
  | 119 => ⟨S4x1, .i32⟩
  | 120 => ⟨S4x1, .i32⟩
  | 121 => ⟨S_, .i32⟩
  | 122 => ⟨S4x1, .i32⟩
  | 123 => ⟨S4x1, .i32⟩
  | 124 => ⟨S_, .i32⟩
  | 125 => ⟨S4x1, .i32⟩
  | 126 => ⟨S4x1, .i32⟩
  | 127 => ⟨S4x1, .i32⟩
  | _ => ⟨S32x1000000, .f32⟩

abbrev hbmTy0_1 (i : Nat) : BufTy := match i % 128 with
  | 0 => ⟨S4x1, .i32⟩
  | 1 => ⟨S4x1, .i32⟩
  | 2 => ⟨S_, .i32⟩
  | 3 => ⟨S4x1, .i32⟩
  | 4 => ⟨S4x1, .i32⟩
  | 5 => ⟨S_, .i32⟩
  | 6 => ⟨S4x1, .i32⟩
  | 7 => ⟨S4x1, .i32⟩
  | 8 => ⟨S4x1, .i32⟩
  | 9 => ⟨S4x1, .i32⟩
  | 10 => ⟨S4x1, .i32⟩
  | 11 => ⟨S_, .i32⟩
  | 12 => ⟨S4x1, .i32⟩
  | 13 => ⟨S4x1, .i32⟩
  | 14 => ⟨S_, .i32⟩
  | 15 => ⟨S4x1, .i32⟩
  | 16 => ⟨S4x1, .i32⟩
  | 17 => ⟨S4x1, .i32⟩
  | 18 => ⟨S4x1, .i32⟩
  | 19 => ⟨S4x1, .i32⟩
  | 20 => ⟨S_, .i32⟩
  | 21 => ⟨S4x1, .i32⟩
  | 22 => ⟨S4x1, .i32⟩
  | 23 => ⟨S_, .i32⟩
  | 24 => ⟨S4x1, .i32⟩
  | 25 => ⟨S4x1, .i32⟩
  | 26 => ⟨S4x1, .i32⟩
  | 27 => ⟨S4x1, .i32⟩
  | 28 => ⟨S4x1, .i32⟩
  | 29 => ⟨S4x1, .i32⟩
  | 30 => ⟨S4x1, .i32⟩
  | 31 => ⟨S4x1, .i32⟩
  | 32 => ⟨S_, .i32⟩
  | 33 => ⟨S4x1, .i32⟩
  | 34 => ⟨S4x1, .i32⟩
  | 35 => ⟨S4x1, .i32⟩
  | 36 => ⟨S_, .i32⟩
  | 37 => ⟨S4x1, .i32⟩
  | 38 => ⟨S4x1, .i32⟩
  | 39 => ⟨S_, .i32⟩
  | 40 => ⟨S4x1, .i32⟩
  | 41 => ⟨S4x1, .i32⟩
  | 42 => ⟨S4x1, .i32⟩
  | 43 => ⟨S4x1, .i32⟩
  | 44 => ⟨S4x1, .i32⟩
  | 45 => ⟨S_, .i32⟩
  | 46 => ⟨S4x1, .i32⟩
  | 47 => ⟨S4x1, .i32⟩
  | 48 => ⟨S_, .i32⟩
  | 49 => ⟨S4x1, .i32⟩
  | 50 => ⟨S4x1, .i32⟩
  | 51 => ⟨S4x1, .i32⟩
  | 52 => ⟨S4x1, .i32⟩
  | 53 => ⟨S4x1, .i32⟩
  | 54 => ⟨S_, .i32⟩
  | 55 => ⟨S4x1, .i32⟩
  | 56 => ⟨S4x1, .i32⟩
  | 57 => ⟨S_, .i32⟩
  | 58 => ⟨S4x1, .i32⟩
  | 59 => ⟨S4x1, .i32⟩
  | 60 => ⟨S4x1, .i32⟩
  | 61 => ⟨S4x1, .i32⟩
  | 62 => ⟨S4x1, .i32⟩
  | 63 => ⟨S_, .i32⟩
  | 64 => ⟨S4x1, .i32⟩
  | 65 => ⟨S4x1, .i32⟩
  | 66 => ⟨S_, .i32⟩
  | 67 => ⟨S4x1, .i32⟩
  | 68 => ⟨S4x1, .i32⟩
  | 69 => ⟨S4x1, .i32⟩
  | 70 => ⟨S4x1, .i32⟩
  | 71 => ⟨S4x1, .i32⟩
  | 72 => ⟨S4x1, .i32⟩
  | 73 => ⟨S4x1, .i32⟩
  | 74 => ⟨S4x1, .i32⟩
  | 75 => ⟨S_, .i32⟩
  | 76 => ⟨S4x1, .i32⟩
  | 77 => ⟨S4x1, .i32⟩
  | 78 => ⟨S4x1, .i32⟩
  | 79 => ⟨S_, .i32⟩
  | 80 => ⟨S4x1, .i32⟩
  | 81 => ⟨S4x1, .i32⟩
  | 82 => ⟨S_, .i32⟩
  | 83 => ⟨S4x1, .i32⟩
  | 84 => ⟨S4x1, .i32⟩
  | 85 => ⟨S4x1, .i32⟩
  | 86 => ⟨S4x1, .i32⟩
  | 87 => ⟨S4x1, .i32⟩
  | 88 => ⟨S_, .i32⟩
  | 89 => ⟨S4x1, .i32⟩
  | 90 => ⟨S4x1, .i32⟩
  | 91 => ⟨S_, .i32⟩
  | 92 => ⟨S4x1, .i32⟩
  | 93 => ⟨S4x1, .i32⟩
  | 94 => ⟨S4x1, .i32⟩
  | 95 => ⟨S4x1, .i32⟩
  | 96 => ⟨S4x1, .i32⟩
  | 97 => ⟨S_, .i32⟩
  | 98 => ⟨S4x1, .i32⟩
  | 99 => ⟨S4x1, .i32⟩
  | 100 => ⟨S_, .i32⟩
  | 101 => ⟨S4x1, .i32⟩
  | 102 => ⟨S4x1, .i32⟩
  | 103 => ⟨S4x1, .i32⟩
  | 104 => ⟨S4x1, .i32⟩
  | 105 => ⟨S4x1, .i32⟩
  | 106 => ⟨S_, .i32⟩
  | 107 => ⟨S4x1, .i32⟩
  | 108 => ⟨S4x1, .i32⟩
  | 109 => ⟨S_, .i32⟩
  | 110 => ⟨S4x1, .i32⟩
  | 111 => ⟨S4x1, .i32⟩
  | 112 => ⟨S4x1, .i32⟩
  | 113 => ⟨S4x1, .i32⟩
  | 114 => ⟨S4x1, .i32⟩
  | 115 => ⟨S4x1, .i32⟩
  | 116 => ⟨S4x1, .i32⟩
  | 117 => ⟨S4x1, .i32⟩
  | 118 => ⟨S_, .i32⟩
  | 119 => ⟨S4x1, .i32⟩
  | 120 => ⟨S4x1, .i32⟩
  | 121 => ⟨S4x2, .i32⟩
  | 122 => ⟨S4x1, .i32⟩
  | 123 => ⟨S4, .i32⟩
  | 124 => ⟨S4x1, .i32⟩
  | 125 => ⟨S4, .i32⟩
  | 126 => ⟨S32x1000000, .i64⟩
  | 127 => ⟨S32x1000000, .i64⟩
  | _ => ⟨S32x1000000, .f32⟩

abbrev hbmTy0_2 (i : Nat) : BufTy := match i % 128 with
  | 0 => ⟨S_, .i64⟩
  | 1 => ⟨S32x1000000, .i64⟩
  | 2 => ⟨S32x1000000, .i64⟩
  | 3 => ⟨S_, .i64⟩
  | 4 => ⟨S32x1000000, .i64⟩
  | 5 => ⟨S32x1000000, .i64⟩
  | 6 => ⟨S32x1000000, .i64⟩
  | 7 => ⟨S_, .i64⟩
  | 8 => ⟨S32x1000000, .i64⟩
  | 9 => ⟨S32x1000000, .i64⟩
  | 10 => ⟨S32x1000000, .i32⟩
  | 11 => ⟨S32x1000000, .i32⟩
  | 12 => ⟨S1x32x1000000, .i32⟩
  | 13 => ⟨S1x32x1000000, .i32⟩
  | 14 => ⟨S4x1x1, .i32⟩
  | 15 => ⟨S4x1x1, .i32⟩
  | 16 => ⟨S4x1x1, .i32⟩
  | 17 => ⟨S_, .i32⟩
  | 18 => ⟨S4x1x1, .i32⟩
  | 19 => ⟨S4x1x1, .i32⟩
  | 20 => ⟨S4x32x1000000, .i32⟩
  | 21 => ⟨S4x32x1000000, .i32⟩
  | 22 => ⟨S4x32x1000000, .i32⟩
  | 23 => ⟨S4x32x1000000, .i32⟩
  | 24 => ⟨S4x32x1000000, .i32⟩
  | 25 => ⟨S4x32x1000000, .i32⟩
  | 26 => ⟨S4x32x1000000, .i32⟩
  | 27 => ⟨S_, .i32⟩
  | 28 => ⟨S4x32x1000000, .i32⟩
  | 29 => ⟨S4x32x1000000, .i32⟩
  | 30 => ⟨S_, .i32⟩
  | 31 => ⟨S4x32x1000000, .i32⟩
  | 32 => ⟨S4x32x1000000, .i32⟩
  | 33 => ⟨S4x32x1000000, .i32⟩
  | 34 => ⟨S4x32x1000000, .i32⟩
  | 35 => ⟨S4x32x1000000, .i32⟩
  | 36 => ⟨S_, .i32⟩
  | 37 => ⟨S4x32x1000000, .i32⟩
  | 38 => ⟨S4x32x1000000, .i32⟩
  | 39 => ⟨S_, .i32⟩
  | 40 => ⟨S4x32x1000000, .i32⟩
  | 41 => ⟨S4x32x1000000, .i32⟩
  | 42 => ⟨S4x32x1000000, .i32⟩
  | 43 => ⟨S4x32x1000000, .i32⟩
  | 44 => ⟨S4x32x1000000, .i32⟩
  | 45 => ⟨S_, .i32⟩
  | 46 => ⟨S4x32x1000000, .i32⟩
  | 47 => ⟨S4x32x1000000, .i32⟩
  | 48 => ⟨S_, .i32⟩
  | 49 => ⟨S4x32x1000000, .i32⟩
  | 50 => ⟨S4x32x1000000, .i32⟩
  | 51 => ⟨S4x32x1000000, .i32⟩
  | 52 => ⟨S4x32x1000000, .i32⟩
  | 53 => ⟨S4x32x1000000, .i32⟩
  | 54 => ⟨S_, .i32⟩
  | 55 => ⟨S4x32x1000000, .i32⟩
  | 56 => ⟨S4x32x1000000, .i32⟩
  | 57 => ⟨S_, .i32⟩
  | 58 => ⟨S4x32x1000000, .i32⟩
  | 59 => ⟨S4x32x1000000, .i32⟩
  | 60 => ⟨S4x32x1000000, .i32⟩
  | 61 => ⟨S4x32x1000000, .i32⟩
  | 62 => ⟨S4x32x1000000, .i32⟩
  | 63 => ⟨S4x32x1000000, .i32⟩
  | 64 => ⟨S4x32x1000000, .i32⟩
  | 65 => ⟨S4x32x1000000, .i32⟩
  | 66 => ⟨S_, .i32⟩
  | 67 => ⟨S4x32x1000000, .i32⟩
  | 68 => ⟨S4x32x1000000, .i32⟩
  | 69 => ⟨S4x32x1000000, .i32⟩
  | 70 => ⟨S_, .i32⟩
  | 71 => ⟨S4x32x1000000, .i32⟩
  | 72 => ⟨S4x32x1000000, .i32⟩
  | 73 => ⟨S_, .i32⟩
  | 74 => ⟨S4x32x1000000, .i32⟩
  | 75 => ⟨S4x32x1000000, .i32⟩
  | 76 => ⟨S4x32x1000000, .i32⟩
  | 77 => ⟨S4x32x1000000, .i32⟩
  | 78 => ⟨S4x32x1000000, .i32⟩
  | 79 => ⟨S_, .i32⟩
  | 80 => ⟨S4x32x1000000, .i32⟩
  | 81 => ⟨S4x32x1000000, .i32⟩
  | 82 => ⟨S_, .i32⟩
  | 83 => ⟨S4x32x1000000, .i32⟩
  | 84 => ⟨S4x32x1000000, .i32⟩
  | 85 => ⟨S4x32x1000000, .i32⟩
  | 86 => ⟨S4x32x1000000, .i32⟩
  | 87 => ⟨S4x32x1000000, .i32⟩
  | 88 => ⟨S_, .i32⟩
  | 89 => ⟨S4x32x1000000, .i32⟩
  | 90 => ⟨S4x32x1000000, .i32⟩
  | 91 => ⟨S_, .i32⟩
  | 92 => ⟨S4x32x1000000, .i32⟩
  | 93 => ⟨S4x32x1000000, .i32⟩
  | 94 => ⟨S4x32x1000000, .i32⟩
  | 95 => ⟨S4x32x1000000, .i32⟩
  | 96 => ⟨S4x32x1000000, .i32⟩
  | 97 => ⟨S_, .i32⟩
  | 98 => ⟨S4x32x1000000, .i32⟩
  | 99 => ⟨S4x32x1000000, .i32⟩
  | 100 => ⟨S_, .i32⟩
  | 101 => ⟨S4x32x1000000, .i32⟩
  | 102 => ⟨S4x32x1000000, .i32⟩
  | 103 => ⟨S4x32x1000000, .i32⟩
  | 104 => ⟨S4x32x1000000, .i32⟩
  | 105 => ⟨S4x32x1000000, .i32⟩
  | 106 => ⟨S4x32x1000000, .i32⟩
  | 107 => ⟨S4x32x1000000, .i32⟩
  | 108 => ⟨S4x32x1000000, .i32⟩
  | 109 => ⟨S_, .i32⟩
  | 110 => ⟨S4x32x1000000, .i32⟩
  | 111 => ⟨S4x32x1000000, .i32⟩
  | 112 => ⟨S4x32x1000000, .i32⟩
  | 113 => ⟨S_, .i32⟩
  | 114 => ⟨S4x32x1000000, .i32⟩
  | 115 => ⟨S4x32x1000000, .i32⟩
  | 116 => ⟨S_, .i32⟩
  | 117 => ⟨S4x32x1000000, .i32⟩
  | 118 => ⟨S4x32x1000000, .i32⟩
  | 119 => ⟨S4x32x1000000, .i32⟩
  | 120 => ⟨S4x32x1000000, .i32⟩
  | 121 => ⟨S4x32x1000000, .i32⟩
  | 122 => ⟨S_, .i32⟩
  | 123 => ⟨S4x32x1000000, .i32⟩
  | 124 => ⟨S4x32x1000000, .i32⟩
  | 125 => ⟨S_, .i32⟩
  | 126 => ⟨S4x32x1000000, .i32⟩
  | 127 => ⟨S4x32x1000000, .i32⟩
  | _ => ⟨S32x1000000, .f32⟩

abbrev hbmTy0_3 (i : Nat) : BufTy := match i % 128 with
  | 0 => ⟨S4x32x1000000, .i32⟩
  | 1 => ⟨S4x32x1000000, .i32⟩
  | 2 => ⟨S4x32x1000000, .i32⟩
  | 3 => ⟨S_, .i32⟩
  | 4 => ⟨S4x32x1000000, .i32⟩
  | 5 => ⟨S4x32x1000000, .i32⟩
  | 6 => ⟨S_, .i32⟩
  | 7 => ⟨S4x32x1000000, .i32⟩
  | 8 => ⟨S4x32x1000000, .i32⟩
  | 9 => ⟨S4x32x1000000, .i32⟩
  | 10 => ⟨S4x32x1000000, .i32⟩
  | 11 => ⟨S4x32x1000000, .i32⟩
  | 12 => ⟨S_, .i32⟩
  | 13 => ⟨S4x32x1000000, .i32⟩
  | 14 => ⟨S4x32x1000000, .i32⟩
  | 15 => ⟨S_, .i32⟩
  | 16 => ⟨S4x32x1000000, .i32⟩
  | 17 => ⟨S4x32x1000000, .i32⟩
  | 18 => ⟨S4x32x1000000, .i32⟩
  | 19 => ⟨S4x32x1000000, .i32⟩
  | 20 => ⟨S4x32x1000000, .i32⟩
  | 21 => ⟨S4x32x1000000, .i32⟩
  | 22 => ⟨S4x32x1000000, .i32⟩
  | 23 => ⟨S4x32x1000000, .i32⟩
  | 24 => ⟨S_, .i32⟩
  | 25 => ⟨S4x32x1000000, .i32⟩
  | 26 => ⟨S4x32x1000000, .i32⟩
  | 27 => ⟨S4x32x1000000, .i32⟩
  | 28 => ⟨S_, .i32⟩
  | 29 => ⟨S4x32x1000000, .i32⟩
  | 30 => ⟨S4x32x1000000, .i32⟩
  | 31 => ⟨S_, .i32⟩
  | 32 => ⟨S4x32x1000000, .i32⟩
  | 33 => ⟨S4x32x1000000, .i32⟩
  | 34 => ⟨S4x32x1000000, .i32⟩
  | 35 => ⟨S4x32x1000000, .i32⟩
  | 36 => ⟨S4x32x1000000, .i32⟩
  | 37 => ⟨S_, .i32⟩
  | 38 => ⟨S4x32x1000000, .i32⟩
  | 39 => ⟨S4x32x1000000, .i32⟩
  | 40 => ⟨S_, .i32⟩
  | 41 => ⟨S4x32x1000000, .i32⟩
  | 42 => ⟨S4x32x1000000, .i32⟩
  | 43 => ⟨S4x32x1000000, .i32⟩
  | 44 => ⟨S4x32x1000000, .i32⟩
  | 45 => ⟨S4x32x1000000, .i32⟩
  | 46 => ⟨S_, .i32⟩
  | 47 => ⟨S4x32x1000000, .i32⟩
  | 48 => ⟨S4x32x1000000, .i32⟩
  | 49 => ⟨S_, .i32⟩
  | 50 => ⟨S4x32x1000000, .i32⟩
  | 51 => ⟨S4x32x1000000, .i32⟩
  | 52 => ⟨S4x32x1000000, .i32⟩
  | 53 => ⟨S4x32x1000000, .i32⟩
  | 54 => ⟨S4x32x1000000, .i32⟩
  | 55 => ⟨S_, .i32⟩
  | 56 => ⟨S4x32x1000000, .i32⟩
  | 57 => ⟨S4x32x1000000, .i32⟩
  | 58 => ⟨S_, .i32⟩
  | 59 => ⟨S4x32x1000000, .i32⟩
  | 60 => ⟨S4x32x1000000, .i32⟩
  | 61 => ⟨S4x32x1000000, .i32⟩
  | 62 => ⟨S4x32x1000000, .i32⟩
  | 63 => ⟨S4x32x1000000, .i32⟩
  | 64 => ⟨S4x32x1000000, .i32⟩
  | 65 => ⟨S4x32x1000000, .i32⟩
  | 66 => ⟨S4x32x1000000, .i32⟩
  | 67 => ⟨S_, .i32⟩
  | 68 => ⟨S4x32x1000000, .i32⟩
  | 69 => ⟨S4x32x1000000, .i32⟩
  | 70 => ⟨S4x32x1000000, .i32⟩
  | 71 => ⟨S_, .i32⟩
  | 72 => ⟨S4x32x1000000, .i32⟩
  | 73 => ⟨S4x32x1000000, .i32⟩
  | 74 => ⟨S_, .i32⟩
  | 75 => ⟨S4x32x1000000, .i32⟩
  | 76 => ⟨S4x32x1000000, .i32⟩
  | 77 => ⟨S4x32x1000000, .i32⟩
  | 78 => ⟨S4x32x1000000, .i32⟩
  | 79 => ⟨S4x32x1000000, .i32⟩
  | 80 => ⟨S_, .i32⟩
  | 81 => ⟨S4x32x1000000, .i32⟩
  | 82 => ⟨S4x32x1000000, .i32⟩
  | 83 => ⟨S_, .i32⟩
  | 84 => ⟨S4x32x1000000, .i32⟩
  | 85 => ⟨S4x32x1000000, .i32⟩
  | 86 => ⟨S4x32x1000000, .i32⟩
  | 87 => ⟨S4x32x1000000, .i32⟩
  | 88 => ⟨S4x32x1000000, .i32⟩
  | 89 => ⟨S_, .i32⟩
  | 90 => ⟨S4x32x1000000, .i32⟩
  | 91 => ⟨S4x32x1000000, .i32⟩
  | 92 => ⟨S_, .i32⟩
  | 93 => ⟨S4x32x1000000, .i32⟩
  | 94 => ⟨S4x32x1000000, .i32⟩
  | 95 => ⟨S4x32x1000000, .i32⟩
  | 96 => ⟨S4x32x1000000, .i32⟩
  | 97 => ⟨S4x32x1000000, .i32⟩
  | 98 => ⟨S_, .i32⟩
  | 99 => ⟨S4x32x1000000, .i32⟩
  | 100 => ⟨S4x32x1000000, .i32⟩
  | 101 => ⟨S_, .i32⟩
  | 102 => ⟨S4x32x1000000, .i32⟩
  | 103 => ⟨S4x32x1000000, .i32⟩
  | 104 => ⟨S4x32x1000000, .i32⟩
  | 105 => ⟨S4x32x1000000, .i32⟩
  | 106 => ⟨S4x32x1000000, .i32⟩
  | 107 => ⟨S4x32x1000000, .i32⟩
  | 108 => ⟨S4x32x1000000, .i32⟩
  | 109 => ⟨S4x32x1000000, .i32⟩
  | 110 => ⟨S_, .i32⟩
  | 111 => ⟨S4x32x1000000, .i32⟩
  | 112 => ⟨S4x32x1000000, .i32⟩
  | 113 => ⟨S4x32x1000000, .i32⟩
  | 114 => ⟨S_, .i32⟩
  | 115 => ⟨S4x32x1000000, .i32⟩
  | 116 => ⟨S4x32x1000000, .i32⟩
  | 117 => ⟨S_, .i32⟩
  | 118 => ⟨S4x32x1000000, .i32⟩
  | 119 => ⟨S4x32x1000000, .i1⟩
  | 120 => ⟨S4x32x1000000, .f32⟩
  | 121 => ⟨S_, .f32⟩
  | 122 => ⟨S4x32x1000000, .f32⟩
  | 123 => ⟨S4x32x1000000, .f32⟩
  | 124 => ⟨S_, .f32⟩
  | 125 => ⟨S4x32x1000000, .f32⟩
  | 126 => ⟨S4x32x1000000, .f32⟩
  | 127 => ⟨S4x32x1000000, .f32⟩
  | _ => ⟨S32x1000000, .f32⟩

abbrev hbmTy0_4 (i : Nat) : BufTy := match i % 128 with
  | 0 => ⟨S4x32x1000000, .f32⟩
  | 1 => ⟨S4x32x1000000, .f32⟩
  | 2 => ⟨S4x32x1000000, .f32⟩
  | 3 => ⟨S1x32x1000000, .f32⟩
  | 4 => ⟨S4x32x1000000, .f32⟩
  | 5 => ⟨S4x32x1000000, .f32⟩
  | 6 => ⟨S4x32x1000000, .i32⟩
  | 7 => ⟨S_, .f32⟩
  | 8 => ⟨S_, .i32⟩
  | 9 => ⟨S4x32, .f32⟩
  | 10 => ⟨S4x32, .i32⟩
  | _ => ⟨S32x1000000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_c_0 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_call0_v0 : Ref sig .tc := ⟨.hbm, 27, rfl⟩
abbrev main_call0_call0_c : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_c_0 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_c_1 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_call0_v12 : Ref sig .tc := ⟨.hbm, 42, rfl⟩
abbrev main_call0_call0_v13 : Ref sig .tc := ⟨.hbm, 43, rfl⟩
abbrev main_call0_call0_c_2 : Ref sig .tc := ⟨.hbm, 44, rfl⟩
abbrev main_call0_call0_v14 : Ref sig .tc := ⟨.hbm, 45, rfl⟩
abbrev main_call0_call0_v15 : Ref sig .tc := ⟨.hbm, 46, rfl⟩
abbrev main_call0_call0_c_3 : Ref sig .tc := ⟨.hbm, 47, rfl⟩
abbrev main_call0_call0_v16 : Ref sig .tc := ⟨.hbm, 48, rfl⟩
abbrev main_call0_call0_v17 : Ref sig .tc := ⟨.hbm, 49, rfl⟩
abbrev main_call0_call0_v18 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_c_4 : Ref sig .tc := ⟨.hbm, 53, rfl⟩
abbrev main_call0_call0_v21 : Ref sig .tc := ⟨.hbm, 54, rfl⟩
abbrev main_call0_call0_v22 : Ref sig .tc := ⟨.hbm, 55, rfl⟩
abbrev main_call0_call0_c_5 : Ref sig .tc := ⟨.hbm, 56, rfl⟩
abbrev main_call0_call0_v23 : Ref sig .tc := ⟨.hbm, 57, rfl⟩
abbrev main_call0_call0_v24 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_v27 : Ref sig .tc := ⟨.hbm, 61, rfl⟩
abbrev main_call0_call0_c_6 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_c_7 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_v32 : Ref sig .tc := ⟨.hbm, 68, rfl⟩
abbrev main_call0_call0_v33 : Ref sig .tc := ⟨.hbm, 69, rfl⟩
abbrev main_call0_call0_v34 : Ref sig .tc := ⟨.hbm, 70, rfl⟩
abbrev main_call0_call0_v35 : Ref sig .tc := ⟨.hbm, 71, rfl⟩
abbrev main_call0_call0_v36 : Ref sig .tc := ⟨.hbm, 72, rfl⟩
abbrev main_call0_call0_v37 : Ref sig .tc := ⟨.hbm, 73, rfl⟩
abbrev main_call0_call0_c_8 : Ref sig .tc := ⟨.hbm, 74, rfl⟩
abbrev main_call0_call0_v38 : Ref sig .tc := ⟨.hbm, 75, rfl⟩
abbrev main_call0_call0_v39 : Ref sig .tc := ⟨.hbm, 76, rfl⟩
abbrev main_call0_call0_v40 : Ref sig .tc := ⟨.hbm, 77, rfl⟩
abbrev main_call0_call0_c_9 : Ref sig .tc := ⟨.hbm, 78, rfl⟩
abbrev main_call0_call0_v41 : Ref sig .tc := ⟨.hbm, 79, rfl⟩
abbrev main_call0_call0_v42 : Ref sig .tc := ⟨.hbm, 80, rfl⟩
abbrev main_call0_call0_c_10 : Ref sig .tc := ⟨.hbm, 81, rfl⟩
abbrev main_call0_call0_v43 : Ref sig .tc := ⟨.hbm, 82, rfl⟩
abbrev main_call0_call0_v44 : Ref sig .tc := ⟨.hbm, 83, rfl⟩
abbrev main_call0_call0_v45 : Ref sig .tc := ⟨.hbm, 84, rfl⟩
abbrev main_call0_call0_v46 : Ref sig .tc := ⟨.hbm, 85, rfl⟩
abbrev main_call0_call0_v47 : Ref sig .tc := ⟨.hbm, 86, rfl⟩
abbrev main_call0_call0_c_11 : Ref sig .tc := ⟨.hbm, 87, rfl⟩
abbrev main_call0_call0_v48 : Ref sig .tc := ⟨.hbm, 88, rfl⟩
abbrev main_call0_call0_v49 : Ref sig .tc := ⟨.hbm, 89, rfl⟩
abbrev main_call0_call0_c_12 : Ref sig .tc := ⟨.hbm, 90, rfl⟩
abbrev main_call0_call0_v50 : Ref sig .tc := ⟨.hbm, 91, rfl⟩
abbrev main_call0_call0_v51 : Ref sig .tc := ⟨.hbm, 92, rfl⟩
abbrev main_call0_call0_v52 : Ref sig .tc := ⟨.hbm, 93, rfl⟩
abbrev main_call0_call0_v53 : Ref sig .tc := ⟨.hbm, 94, rfl⟩
abbrev main_call0_call0_v54 : Ref sig .tc := ⟨.hbm, 95, rfl⟩
abbrev main_call0_call0_c_13 : Ref sig .tc := ⟨.hbm, 96, rfl⟩
abbrev main_call0_call0_v55 : Ref sig .tc := ⟨.hbm, 97, rfl⟩
abbrev main_call0_call0_v56 : Ref sig .tc := ⟨.hbm, 98, rfl⟩
abbrev main_call0_call0_c_14 : Ref sig .tc := ⟨.hbm, 99, rfl⟩
abbrev main_call0_call0_v57 : Ref sig .tc := ⟨.hbm, 100, rfl⟩
abbrev main_call0_call0_v58 : Ref sig .tc := ⟨.hbm, 101, rfl⟩
abbrev main_call0_call0_v59 : Ref sig .tc := ⟨.hbm, 102, rfl⟩
abbrev main_call0_call0_v60 : Ref sig .tc := ⟨.hbm, 103, rfl⟩
abbrev main_call0_call0_v61 : Ref sig .tc := ⟨.hbm, 104, rfl⟩
abbrev main_call0_call0_c_15 : Ref sig .tc := ⟨.hbm, 105, rfl⟩
abbrev main_call0_call0_v62 : Ref sig .tc := ⟨.hbm, 106, rfl⟩
abbrev main_call0_call0_v63 : Ref sig .tc := ⟨.hbm, 107, rfl⟩
abbrev main_call0_call0_c_16 : Ref sig .tc := ⟨.hbm, 108, rfl⟩
abbrev main_call0_call0_v64 : Ref sig .tc := ⟨.hbm, 109, rfl⟩
abbrev main_call0_call0_v65 : Ref sig .tc := ⟨.hbm, 110, rfl⟩
abbrev main_call0_call0_v66 : Ref sig .tc := ⟨.hbm, 111, rfl⟩
abbrev main_call0_call0_v67 : Ref sig .tc := ⟨.hbm, 112, rfl⟩
abbrev main_call0_call0_v68 : Ref sig .tc := ⟨.hbm, 113, rfl⟩
abbrev main_call0_call0_v69 : Ref sig .tc := ⟨.hbm, 114, rfl⟩
abbrev main_call0_call0_v70 : Ref sig .tc := ⟨.hbm, 115, rfl⟩
abbrev main_call0_call0_v71 : Ref sig .tc := ⟨.hbm, 116, rfl⟩
abbrev main_call0_call0_c_17 : Ref sig .tc := ⟨.hbm, 117, rfl⟩
abbrev main_call0_call0_v72 : Ref sig .tc := ⟨.hbm, 118, rfl⟩
abbrev main_call0_call0_v73 : Ref sig .tc := ⟨.hbm, 119, rfl⟩
abbrev main_call0_call0_v74 : Ref sig .tc := ⟨.hbm, 120, rfl⟩
abbrev main_call0_call0_c_18 : Ref sig .tc := ⟨.hbm, 121, rfl⟩
abbrev main_call0_call0_v75 : Ref sig .tc := ⟨.hbm, 122, rfl⟩
abbrev main_call0_call0_v76 : Ref sig .tc := ⟨.hbm, 123, rfl⟩
abbrev main_call0_call0_c_19 : Ref sig .tc := ⟨.hbm, 124, rfl⟩
abbrev main_call0_call0_v77 : Ref sig .tc := ⟨.hbm, 125, rfl⟩
abbrev main_call0_call0_v78 : Ref sig .tc := ⟨.hbm, 126, rfl⟩
abbrev main_call0_call0_v79 : Ref sig .tc := ⟨.hbm, 127, rfl⟩
abbrev main_call0_call0_v80 : Ref sig .tc := ⟨.hbm, 128, rfl⟩
abbrev main_call0_call0_v81 : Ref sig .tc := ⟨.hbm, 129, rfl⟩
abbrev main_call0_call0_c_20 : Ref sig .tc := ⟨.hbm, 130, rfl⟩
abbrev main_call0_call0_v82 : Ref sig .tc := ⟨.hbm, 131, rfl⟩
abbrev main_call0_call0_v83 : Ref sig .tc := ⟨.hbm, 132, rfl⟩
abbrev main_call0_call0_c_21 : Ref sig .tc := ⟨.hbm, 133, rfl⟩
abbrev main_call0_call0_v84 : Ref sig .tc := ⟨.hbm, 134, rfl⟩
abbrev main_call0_call0_v85 : Ref sig .tc := ⟨.hbm, 135, rfl⟩
abbrev main_call0_call0_v86 : Ref sig .tc := ⟨.hbm, 136, rfl⟩
abbrev main_call0_call0_v87 : Ref sig .tc := ⟨.hbm, 137, rfl⟩
abbrev main_call0_call0_v88 : Ref sig .tc := ⟨.hbm, 138, rfl⟩
abbrev main_call0_call0_c_22 : Ref sig .tc := ⟨.hbm, 139, rfl⟩
abbrev main_call0_call0_v89 : Ref sig .tc := ⟨.hbm, 140, rfl⟩
abbrev main_call0_call0_v90 : Ref sig .tc := ⟨.hbm, 141, rfl⟩
abbrev main_call0_call0_c_23 : Ref sig .tc := ⟨.hbm, 142, rfl⟩
abbrev main_call0_call0_v91 : Ref sig .tc := ⟨.hbm, 143, rfl⟩
abbrev main_call0_call0_v92 : Ref sig .tc := ⟨.hbm, 144, rfl⟩
abbrev main_call0_call0_v93 : Ref sig .tc := ⟨.hbm, 145, rfl⟩
abbrev main_call0_call0_v94 : Ref sig .tc := ⟨.hbm, 146, rfl⟩
abbrev main_call0_call0_v95 : Ref sig .tc := ⟨.hbm, 147, rfl⟩
abbrev main_call0_call0_c_24 : Ref sig .tc := ⟨.hbm, 148, rfl⟩
abbrev main_call0_call0_v96 : Ref sig .tc := ⟨.hbm, 149, rfl⟩
abbrev main_call0_call0_v97 : Ref sig .tc := ⟨.hbm, 150, rfl⟩
abbrev main_call0_call0_c_25 : Ref sig .tc := ⟨.hbm, 151, rfl⟩
abbrev main_call0_call0_v98 : Ref sig .tc := ⟨.hbm, 152, rfl⟩
abbrev main_call0_call0_v99 : Ref sig .tc := ⟨.hbm, 153, rfl⟩
abbrev main_call0_call0_v100 : Ref sig .tc := ⟨.hbm, 154, rfl⟩
abbrev main_call0_call0_v101 : Ref sig .tc := ⟨.hbm, 155, rfl⟩
abbrev main_call0_call0_v102 : Ref sig .tc := ⟨.hbm, 156, rfl⟩
abbrev main_call0_call0_v103 : Ref sig .tc := ⟨.hbm, 157, rfl⟩
abbrev main_call0_call0_v104 : Ref sig .tc := ⟨.hbm, 158, rfl⟩
abbrev main_call0_call0_v105 : Ref sig .tc := ⟨.hbm, 159, rfl⟩
abbrev main_call0_call0_c_26 : Ref sig .tc := ⟨.hbm, 160, rfl⟩
abbrev main_call0_call0_v106 : Ref sig .tc := ⟨.hbm, 161, rfl⟩
abbrev main_call0_call0_v107 : Ref sig .tc := ⟨.hbm, 162, rfl⟩
abbrev main_call0_call0_v108 : Ref sig .tc := ⟨.hbm, 163, rfl⟩
abbrev main_call0_call0_c_27 : Ref sig .tc := ⟨.hbm, 164, rfl⟩
abbrev main_call0_call0_v109 : Ref sig .tc := ⟨.hbm, 165, rfl⟩
abbrev main_call0_call0_v110 : Ref sig .tc := ⟨.hbm, 166, rfl⟩
abbrev main_call0_call0_c_28 : Ref sig .tc := ⟨.hbm, 167, rfl⟩
abbrev main_call0_call0_v111 : Ref sig .tc := ⟨.hbm, 168, rfl⟩
abbrev main_call0_call0_v112 : Ref sig .tc := ⟨.hbm, 169, rfl⟩
abbrev main_call0_call0_v113 : Ref sig .tc := ⟨.hbm, 170, rfl⟩
abbrev main_call0_call0_v114 : Ref sig .tc := ⟨.hbm, 171, rfl⟩
abbrev main_call0_call0_v115 : Ref sig .tc := ⟨.hbm, 172, rfl⟩
abbrev main_call0_call0_c_29 : Ref sig .tc := ⟨.hbm, 173, rfl⟩
abbrev main_call0_call0_v116 : Ref sig .tc := ⟨.hbm, 174, rfl⟩
abbrev main_call0_call0_v117 : Ref sig .tc := ⟨.hbm, 175, rfl⟩
abbrev main_call0_call0_c_30 : Ref sig .tc := ⟨.hbm, 176, rfl⟩
abbrev main_call0_call0_v118 : Ref sig .tc := ⟨.hbm, 177, rfl⟩
abbrev main_call0_call0_v119 : Ref sig .tc := ⟨.hbm, 178, rfl⟩
abbrev main_call0_call0_v120 : Ref sig .tc := ⟨.hbm, 179, rfl⟩
abbrev main_call0_call0_v121 : Ref sig .tc := ⟨.hbm, 180, rfl⟩
abbrev main_call0_call0_v122 : Ref sig .tc := ⟨.hbm, 181, rfl⟩
abbrev main_call0_call0_c_31 : Ref sig .tc := ⟨.hbm, 182, rfl⟩
abbrev main_call0_call0_v123 : Ref sig .tc := ⟨.hbm, 183, rfl⟩
abbrev main_call0_call0_v124 : Ref sig .tc := ⟨.hbm, 184, rfl⟩
abbrev main_call0_call0_c_32 : Ref sig .tc := ⟨.hbm, 185, rfl⟩
abbrev main_call0_call0_v125 : Ref sig .tc := ⟨.hbm, 186, rfl⟩
abbrev main_call0_call0_v126 : Ref sig .tc := ⟨.hbm, 187, rfl⟩
abbrev main_call0_call0_v127 : Ref sig .tc := ⟨.hbm, 188, rfl⟩
abbrev main_call0_call0_v128 : Ref sig .tc := ⟨.hbm, 189, rfl⟩
abbrev main_call0_call0_v129 : Ref sig .tc := ⟨.hbm, 190, rfl⟩
abbrev main_call0_call0_c_33 : Ref sig .tc := ⟨.hbm, 191, rfl⟩
abbrev main_call0_call0_v130 : Ref sig .tc := ⟨.hbm, 192, rfl⟩
abbrev main_call0_call0_v131 : Ref sig .tc := ⟨.hbm, 193, rfl⟩
abbrev main_call0_call0_c_34 : Ref sig .tc := ⟨.hbm, 194, rfl⟩
abbrev main_call0_call0_v132 : Ref sig .tc := ⟨.hbm, 195, rfl⟩
abbrev main_call0_call0_v133 : Ref sig .tc := ⟨.hbm, 196, rfl⟩
abbrev main_call0_call0_v134 : Ref sig .tc := ⟨.hbm, 197, rfl⟩
abbrev main_call0_call0_v135 : Ref sig .tc := ⟨.hbm, 198, rfl⟩
abbrev main_call0_call0_v136 : Ref sig .tc := ⟨.hbm, 199, rfl⟩
abbrev main_call0_call0_v137 : Ref sig .tc := ⟨.hbm, 200, rfl⟩
abbrev main_call0_call0_v138 : Ref sig .tc := ⟨.hbm, 201, rfl⟩
abbrev main_call0_call0_v139 : Ref sig .tc := ⟨.hbm, 202, rfl⟩
abbrev main_call0_call0_c_35 : Ref sig .tc := ⟨.hbm, 203, rfl⟩
abbrev main_call0_call0_v140 : Ref sig .tc := ⟨.hbm, 204, rfl⟩
abbrev main_call0_call0_v141 : Ref sig .tc := ⟨.hbm, 205, rfl⟩
abbrev main_call0_call0_v142 : Ref sig .tc := ⟨.hbm, 206, rfl⟩
abbrev main_call0_call0_c_36 : Ref sig .tc := ⟨.hbm, 207, rfl⟩
abbrev main_call0_call0_v143 : Ref sig .tc := ⟨.hbm, 208, rfl⟩
abbrev main_call0_call0_v144 : Ref sig .tc := ⟨.hbm, 209, rfl⟩
abbrev main_call0_call0_c_37 : Ref sig .tc := ⟨.hbm, 210, rfl⟩
abbrev main_call0_call0_v145 : Ref sig .tc := ⟨.hbm, 211, rfl⟩
abbrev main_call0_call0_v146 : Ref sig .tc := ⟨.hbm, 212, rfl⟩
abbrev main_call0_call0_v147 : Ref sig .tc := ⟨.hbm, 213, rfl⟩
abbrev main_call0_call0_v148 : Ref sig .tc := ⟨.hbm, 214, rfl⟩
abbrev main_call0_call0_v149 : Ref sig .tc := ⟨.hbm, 215, rfl⟩
abbrev main_call0_call0_c_38 : Ref sig .tc := ⟨.hbm, 216, rfl⟩
abbrev main_call0_call0_v150 : Ref sig .tc := ⟨.hbm, 217, rfl⟩
abbrev main_call0_call0_v151 : Ref sig .tc := ⟨.hbm, 218, rfl⟩
abbrev main_call0_call0_c_39 : Ref sig .tc := ⟨.hbm, 219, rfl⟩
abbrev main_call0_call0_v152 : Ref sig .tc := ⟨.hbm, 220, rfl⟩
abbrev main_call0_call0_v153 : Ref sig .tc := ⟨.hbm, 221, rfl⟩
abbrev main_call0_call0_v154 : Ref sig .tc := ⟨.hbm, 222, rfl⟩
abbrev main_call0_call0_v155 : Ref sig .tc := ⟨.hbm, 223, rfl⟩
abbrev main_call0_call0_v156 : Ref sig .tc := ⟨.hbm, 224, rfl⟩
abbrev main_call0_call0_c_40 : Ref sig .tc := ⟨.hbm, 225, rfl⟩
abbrev main_call0_call0_v157 : Ref sig .tc := ⟨.hbm, 226, rfl⟩
abbrev main_call0_call0_v158 : Ref sig .tc := ⟨.hbm, 227, rfl⟩
abbrev main_call0_call0_c_41 : Ref sig .tc := ⟨.hbm, 228, rfl⟩
abbrev main_call0_call0_v159 : Ref sig .tc := ⟨.hbm, 229, rfl⟩
abbrev main_call0_call0_v160 : Ref sig .tc := ⟨.hbm, 230, rfl⟩
abbrev main_call0_call0_v161 : Ref sig .tc := ⟨.hbm, 231, rfl⟩
abbrev main_call0_call0_v162 : Ref sig .tc := ⟨.hbm, 232, rfl⟩
abbrev main_call0_call0_v163 : Ref sig .tc := ⟨.hbm, 233, rfl⟩
abbrev main_call0_call0_c_42 : Ref sig .tc := ⟨.hbm, 234, rfl⟩
abbrev main_call0_call0_v164 : Ref sig .tc := ⟨.hbm, 235, rfl⟩
abbrev main_call0_call0_v165 : Ref sig .tc := ⟨.hbm, 236, rfl⟩
abbrev main_call0_call0_c_43 : Ref sig .tc := ⟨.hbm, 237, rfl⟩
abbrev main_call0_call0_v166 : Ref sig .tc := ⟨.hbm, 238, rfl⟩
abbrev main_call0_call0_v167 : Ref sig .tc := ⟨.hbm, 239, rfl⟩
abbrev main_call0_call0_v168 : Ref sig .tc := ⟨.hbm, 240, rfl⟩
abbrev main_call0_call0_v169 : Ref sig .tc := ⟨.hbm, 241, rfl⟩
abbrev main_call0_call0_v170 : Ref sig .tc := ⟨.hbm, 242, rfl⟩
abbrev main_call0_v13_0 : Ref sig .tc := ⟨.hbm, 243, rfl⟩
abbrev main_call0_call0_v172 : Ref sig .tc := ⟨.hbm, 244, rfl⟩
abbrev main_call0_call0_v173 : Ref sig .tc := ⟨.hbm, 245, rfl⟩
abbrev main_call0_call0_c_44 : Ref sig .tc := ⟨.hbm, 246, rfl⟩
abbrev main_call0_call0_v174 : Ref sig .tc := ⟨.hbm, 247, rfl⟩
abbrev main_call0_v13_1 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_v12 : Ref sig .tc := ⟨.hbm, 253, rfl⟩
abbrev main_v13 : Ref sig .tc := ⟨.hbm, 254, rfl⟩
abbrev main_v14 : Ref sig .tc := ⟨.hbm, 255, rfl⟩
abbrev main_c_2 : Ref sig .tc := ⟨.hbm, 256, rfl⟩
abbrev main_v15 : Ref sig .tc := ⟨.hbm, 257, rfl⟩
abbrev main_v16 : Ref sig .tc := ⟨.hbm, 258, rfl⟩
abbrev main_c_3 : Ref sig .tc := ⟨.hbm, 259, rfl⟩
abbrev main_v17 : Ref sig .tc := ⟨.hbm, 260, rfl⟩
abbrev main_v18 : Ref sig .tc := ⟨.hbm, 261, rfl⟩
abbrev main_v19 : Ref sig .tc := ⟨.hbm, 262, rfl⟩
abbrev main_c_4 : Ref sig .tc := ⟨.hbm, 263, rfl⟩
abbrev main_v20 : Ref sig .tc := ⟨.hbm, 264, rfl⟩
abbrev main_v21 : Ref sig .tc := ⟨.hbm, 265, rfl⟩
abbrev main_v22 : Ref sig .tc := ⟨.hbm, 266, rfl⟩
abbrev main_v23 : Ref sig .tc := ⟨.hbm, 267, rfl⟩
abbrev main_v24 : Ref sig .tc := ⟨.hbm, 268, rfl⟩
abbrev main_v25 : Ref sig .tc := ⟨.hbm, 269, rfl⟩
abbrev main_v26 : Ref sig .tc := ⟨.hbm, 270, rfl⟩
abbrev main_v27 : Ref sig .tc := ⟨.hbm, 271, rfl⟩
abbrev main_call1_v0 : Ref sig .tc := ⟨.hbm, 272, rfl⟩
abbrev main_call1_c : Ref sig .tc := ⟨.hbm, 273, rfl⟩
abbrev main_call1_v1 : Ref sig .tc := ⟨.hbm, 274, rfl⟩
abbrev main_call1_v2 : Ref sig .tc := ⟨.hbm, 275, rfl⟩
abbrev main_call1_v3 : Ref sig .tc := ⟨.hbm, 276, rfl⟩
abbrev main_call1_v4 : Ref sig .tc := ⟨.hbm, 277, rfl⟩
abbrev main_call1_v5 : Ref sig .tc := ⟨.hbm, 278, rfl⟩
abbrev main_call1_v6 : Ref sig .tc := ⟨.hbm, 279, rfl⟩
abbrev main_call1_v7 : Ref sig .tc := ⟨.hbm, 280, rfl⟩
abbrev main_call1_v8 : Ref sig .tc := ⟨.hbm, 281, rfl⟩
abbrev main_call1_v9 : Ref sig .tc := ⟨.hbm, 282, rfl⟩
abbrev main_call1_c_0 : Ref sig .tc := ⟨.hbm, 283, rfl⟩
abbrev main_call1_v10 : Ref sig .tc := ⟨.hbm, 284, rfl⟩
abbrev main_call1_v11 : Ref sig .tc := ⟨.hbm, 285, rfl⟩
abbrev main_call1_c_1 : Ref sig .tc := ⟨.hbm, 286, rfl⟩
abbrev main_call1_v12 : Ref sig .tc := ⟨.hbm, 287, rfl⟩
abbrev main_call1_v13 : Ref sig .tc := ⟨.hbm, 288, rfl⟩
abbrev main_call1_v14 : Ref sig .tc := ⟨.hbm, 289, rfl⟩
abbrev main_call1_v15 : Ref sig .tc := ⟨.hbm, 290, rfl⟩
abbrev main_call1_v16 : Ref sig .tc := ⟨.hbm, 291, rfl⟩
abbrev main_call1_c_2 : Ref sig .tc := ⟨.hbm, 292, rfl⟩
abbrev main_call1_v17 : Ref sig .tc := ⟨.hbm, 293, rfl⟩
abbrev main_call1_v18 : Ref sig .tc := ⟨.hbm, 294, rfl⟩
abbrev main_call1_c_3 : Ref sig .tc := ⟨.hbm, 295, rfl⟩
abbrev main_call1_v19 : Ref sig .tc := ⟨.hbm, 296, rfl⟩
abbrev main_call1_v20 : Ref sig .tc := ⟨.hbm, 297, rfl⟩
abbrev main_call1_v21 : Ref sig .tc := ⟨.hbm, 298, rfl⟩
abbrev main_call1_v22 : Ref sig .tc := ⟨.hbm, 299, rfl⟩
abbrev main_call1_v23 : Ref sig .tc := ⟨.hbm, 300, rfl⟩
abbrev main_call1_c_4 : Ref sig .tc := ⟨.hbm, 301, rfl⟩
abbrev main_call1_v24 : Ref sig .tc := ⟨.hbm, 302, rfl⟩
abbrev main_call1_v25 : Ref sig .tc := ⟨.hbm, 303, rfl⟩
abbrev main_call1_c_5 : Ref sig .tc := ⟨.hbm, 304, rfl⟩
abbrev main_call1_v26 : Ref sig .tc := ⟨.hbm, 305, rfl⟩
abbrev main_call1_v27 : Ref sig .tc := ⟨.hbm, 306, rfl⟩
abbrev main_call1_v28 : Ref sig .tc := ⟨.hbm, 307, rfl⟩
abbrev main_call1_v29 : Ref sig .tc := ⟨.hbm, 308, rfl⟩
abbrev main_call1_v30 : Ref sig .tc := ⟨.hbm, 309, rfl⟩
abbrev main_call1_c_6 : Ref sig .tc := ⟨.hbm, 310, rfl⟩
abbrev main_call1_v31 : Ref sig .tc := ⟨.hbm, 311, rfl⟩
abbrev main_call1_v32 : Ref sig .tc := ⟨.hbm, 312, rfl⟩
abbrev main_call1_c_7 : Ref sig .tc := ⟨.hbm, 313, rfl⟩
abbrev main_call1_v33 : Ref sig .tc := ⟨.hbm, 314, rfl⟩
abbrev main_call1_v34 : Ref sig .tc := ⟨.hbm, 315, rfl⟩
abbrev main_call1_v35 : Ref sig .tc := ⟨.hbm, 316, rfl⟩
abbrev main_call1_v36 : Ref sig .tc := ⟨.hbm, 317, rfl⟩
abbrev main_call1_v37 : Ref sig .tc := ⟨.hbm, 318, rfl⟩
abbrev main_call1_v38 : Ref sig .tc := ⟨.hbm, 319, rfl⟩
abbrev main_call1_v39 : Ref sig .tc := ⟨.hbm, 320, rfl⟩
abbrev main_call1_v40 : Ref sig .tc := ⟨.hbm, 321, rfl⟩
abbrev main_call1_c_8 : Ref sig .tc := ⟨.hbm, 322, rfl⟩
abbrev main_call1_v41 : Ref sig .tc := ⟨.hbm, 323, rfl⟩
abbrev main_call1_v42 : Ref sig .tc := ⟨.hbm, 324, rfl⟩
abbrev main_call1_v43 : Ref sig .tc := ⟨.hbm, 325, rfl⟩
abbrev main_call1_c_9 : Ref sig .tc := ⟨.hbm, 326, rfl⟩
abbrev main_call1_v44 : Ref sig .tc := ⟨.hbm, 327, rfl⟩
abbrev main_call1_v45 : Ref sig .tc := ⟨.hbm, 328, rfl⟩
abbrev main_call1_c_10 : Ref sig .tc := ⟨.hbm, 329, rfl⟩
abbrev main_call1_v46 : Ref sig .tc := ⟨.hbm, 330, rfl⟩
abbrev main_call1_v47 : Ref sig .tc := ⟨.hbm, 331, rfl⟩
abbrev main_call1_v48 : Ref sig .tc := ⟨.hbm, 332, rfl⟩
abbrev main_call1_v49 : Ref sig .tc := ⟨.hbm, 333, rfl⟩
abbrev main_call1_v50 : Ref sig .tc := ⟨.hbm, 334, rfl⟩
abbrev main_call1_c_11 : Ref sig .tc := ⟨.hbm, 335, rfl⟩
abbrev main_call1_v51 : Ref sig .tc := ⟨.hbm, 336, rfl⟩
abbrev main_call1_v52 : Ref sig .tc := ⟨.hbm, 337, rfl⟩
abbrev main_call1_c_12 : Ref sig .tc := ⟨.hbm, 338, rfl⟩
abbrev main_call1_v53 : Ref sig .tc := ⟨.hbm, 339, rfl⟩
abbrev main_call1_v54 : Ref sig .tc := ⟨.hbm, 340, rfl⟩
abbrev main_call1_v55 : Ref sig .tc := ⟨.hbm, 341, rfl⟩
abbrev main_call1_v56 : Ref sig .tc := ⟨.hbm, 342, rfl⟩
abbrev main_call1_v57 : Ref sig .tc := ⟨.hbm, 343, rfl⟩
abbrev main_call1_c_13 : Ref sig .tc := ⟨.hbm, 344, rfl⟩
abbrev main_call1_v58 : Ref sig .tc := ⟨.hbm, 345, rfl⟩
abbrev main_call1_v59 : Ref sig .tc := ⟨.hbm, 346, rfl⟩
abbrev main_call1_c_14 : Ref sig .tc := ⟨.hbm, 347, rfl⟩
abbrev main_call1_v60 : Ref sig .tc := ⟨.hbm, 348, rfl⟩
abbrev main_call1_v61 : Ref sig .tc := ⟨.hbm, 349, rfl⟩
abbrev main_call1_v62 : Ref sig .tc := ⟨.hbm, 350, rfl⟩
abbrev main_call1_v63 : Ref sig .tc := ⟨.hbm, 351, rfl⟩
abbrev main_call1_v64 : Ref sig .tc := ⟨.hbm, 352, rfl⟩
abbrev main_call1_c_15 : Ref sig .tc := ⟨.hbm, 353, rfl⟩
abbrev main_call1_v65 : Ref sig .tc := ⟨.hbm, 354, rfl⟩
abbrev main_call1_v66 : Ref sig .tc := ⟨.hbm, 355, rfl⟩
abbrev main_call1_c_16 : Ref sig .tc := ⟨.hbm, 356, rfl⟩
abbrev main_call1_v67 : Ref sig .tc := ⟨.hbm, 357, rfl⟩
abbrev main_call1_v68 : Ref sig .tc := ⟨.hbm, 358, rfl⟩
abbrev main_call1_v69 : Ref sig .tc := ⟨.hbm, 359, rfl⟩
abbrev main_call1_v70 : Ref sig .tc := ⟨.hbm, 360, rfl⟩
abbrev main_call1_v71 : Ref sig .tc := ⟨.hbm, 361, rfl⟩
abbrev main_call1_v72 : Ref sig .tc := ⟨.hbm, 362, rfl⟩
abbrev main_call1_v73 : Ref sig .tc := ⟨.hbm, 363, rfl⟩
abbrev main_call1_v74 : Ref sig .tc := ⟨.hbm, 364, rfl⟩
abbrev main_call1_c_17 : Ref sig .tc := ⟨.hbm, 365, rfl⟩
abbrev main_call1_v75 : Ref sig .tc := ⟨.hbm, 366, rfl⟩
abbrev main_call1_v76 : Ref sig .tc := ⟨.hbm, 367, rfl⟩
abbrev main_call1_v77 : Ref sig .tc := ⟨.hbm, 368, rfl⟩
abbrev main_call1_c_18 : Ref sig .tc := ⟨.hbm, 369, rfl⟩
abbrev main_call1_v78 : Ref sig .tc := ⟨.hbm, 370, rfl⟩
abbrev main_call1_v79 : Ref sig .tc := ⟨.hbm, 371, rfl⟩
abbrev main_call1_c_19 : Ref sig .tc := ⟨.hbm, 372, rfl⟩
abbrev main_call1_v80 : Ref sig .tc := ⟨.hbm, 373, rfl⟩
abbrev main_call1_v81 : Ref sig .tc := ⟨.hbm, 374, rfl⟩
abbrev main_call1_v82 : Ref sig .tc := ⟨.hbm, 375, rfl⟩
abbrev main_call1_v83 : Ref sig .tc := ⟨.hbm, 376, rfl⟩
abbrev main_call1_v84 : Ref sig .tc := ⟨.hbm, 377, rfl⟩
abbrev main_call1_c_20 : Ref sig .tc := ⟨.hbm, 378, rfl⟩
abbrev main_call1_v85 : Ref sig .tc := ⟨.hbm, 379, rfl⟩
abbrev main_call1_v86 : Ref sig .tc := ⟨.hbm, 380, rfl⟩
abbrev main_call1_c_21 : Ref sig .tc := ⟨.hbm, 381, rfl⟩
abbrev main_call1_v87 : Ref sig .tc := ⟨.hbm, 382, rfl⟩
abbrev main_call1_v88 : Ref sig .tc := ⟨.hbm, 383, rfl⟩
abbrev main_call1_v89 : Ref sig .tc := ⟨.hbm, 384, rfl⟩
abbrev main_call1_v90 : Ref sig .tc := ⟨.hbm, 385, rfl⟩
abbrev main_call1_v91 : Ref sig .tc := ⟨.hbm, 386, rfl⟩
abbrev main_call1_c_22 : Ref sig .tc := ⟨.hbm, 387, rfl⟩
abbrev main_call1_v92 : Ref sig .tc := ⟨.hbm, 388, rfl⟩
abbrev main_call1_v93 : Ref sig .tc := ⟨.hbm, 389, rfl⟩
abbrev main_call1_c_23 : Ref sig .tc := ⟨.hbm, 390, rfl⟩
abbrev main_call1_v94 : Ref sig .tc := ⟨.hbm, 391, rfl⟩
abbrev main_call1_v95 : Ref sig .tc := ⟨.hbm, 392, rfl⟩
abbrev main_call1_v96 : Ref sig .tc := ⟨.hbm, 393, rfl⟩
abbrev main_call1_v97 : Ref sig .tc := ⟨.hbm, 394, rfl⟩
abbrev main_call1_v98 : Ref sig .tc := ⟨.hbm, 395, rfl⟩
abbrev main_call1_c_24 : Ref sig .tc := ⟨.hbm, 396, rfl⟩
abbrev main_call1_v99 : Ref sig .tc := ⟨.hbm, 397, rfl⟩
abbrev main_call1_v100 : Ref sig .tc := ⟨.hbm, 398, rfl⟩
abbrev main_call1_c_25 : Ref sig .tc := ⟨.hbm, 399, rfl⟩
abbrev main_call1_v101 : Ref sig .tc := ⟨.hbm, 400, rfl⟩
abbrev main_call1_v102 : Ref sig .tc := ⟨.hbm, 401, rfl⟩
abbrev main_call1_v103 : Ref sig .tc := ⟨.hbm, 402, rfl⟩
abbrev main_call1_v104 : Ref sig .tc := ⟨.hbm, 403, rfl⟩
abbrev main_call1_v105 : Ref sig .tc := ⟨.hbm, 404, rfl⟩
abbrev main_call1_v106 : Ref sig .tc := ⟨.hbm, 405, rfl⟩
abbrev main_call1_v107 : Ref sig .tc := ⟨.hbm, 406, rfl⟩
abbrev main_call1_v108 : Ref sig .tc := ⟨.hbm, 407, rfl⟩
abbrev main_call1_c_26 : Ref sig .tc := ⟨.hbm, 408, rfl⟩
abbrev main_call1_v109 : Ref sig .tc := ⟨.hbm, 409, rfl⟩
abbrev main_call1_v110 : Ref sig .tc := ⟨.hbm, 410, rfl⟩
abbrev main_call1_v111 : Ref sig .tc := ⟨.hbm, 411, rfl⟩
abbrev main_call1_c_27 : Ref sig .tc := ⟨.hbm, 412, rfl⟩
abbrev main_call1_v112 : Ref sig .tc := ⟨.hbm, 413, rfl⟩
abbrev main_call1_v113 : Ref sig .tc := ⟨.hbm, 414, rfl⟩
abbrev main_call1_c_28 : Ref sig .tc := ⟨.hbm, 415, rfl⟩
abbrev main_call1_v114 : Ref sig .tc := ⟨.hbm, 416, rfl⟩
abbrev main_call1_v115 : Ref sig .tc := ⟨.hbm, 417, rfl⟩
abbrev main_call1_v116 : Ref sig .tc := ⟨.hbm, 418, rfl⟩
abbrev main_call1_v117 : Ref sig .tc := ⟨.hbm, 419, rfl⟩
abbrev main_call1_v118 : Ref sig .tc := ⟨.hbm, 420, rfl⟩
abbrev main_call1_c_29 : Ref sig .tc := ⟨.hbm, 421, rfl⟩
abbrev main_call1_v119 : Ref sig .tc := ⟨.hbm, 422, rfl⟩
abbrev main_call1_v120 : Ref sig .tc := ⟨.hbm, 423, rfl⟩
abbrev main_call1_c_30 : Ref sig .tc := ⟨.hbm, 424, rfl⟩
abbrev main_call1_v121 : Ref sig .tc := ⟨.hbm, 425, rfl⟩
abbrev main_call1_v122 : Ref sig .tc := ⟨.hbm, 426, rfl⟩
abbrev main_call1_v123 : Ref sig .tc := ⟨.hbm, 427, rfl⟩
abbrev main_call1_v124 : Ref sig .tc := ⟨.hbm, 428, rfl⟩
abbrev main_call1_v125 : Ref sig .tc := ⟨.hbm, 429, rfl⟩
abbrev main_call1_c_31 : Ref sig .tc := ⟨.hbm, 430, rfl⟩
abbrev main_call1_v126 : Ref sig .tc := ⟨.hbm, 431, rfl⟩
abbrev main_call1_v127 : Ref sig .tc := ⟨.hbm, 432, rfl⟩
abbrev main_call1_c_32 : Ref sig .tc := ⟨.hbm, 433, rfl⟩
abbrev main_call1_v128 : Ref sig .tc := ⟨.hbm, 434, rfl⟩
abbrev main_call1_v129 : Ref sig .tc := ⟨.hbm, 435, rfl⟩
abbrev main_call1_v130 : Ref sig .tc := ⟨.hbm, 436, rfl⟩
abbrev main_call1_v131 : Ref sig .tc := ⟨.hbm, 437, rfl⟩
abbrev main_call1_v132 : Ref sig .tc := ⟨.hbm, 438, rfl⟩
abbrev main_call1_c_33 : Ref sig .tc := ⟨.hbm, 439, rfl⟩
abbrev main_call1_v133 : Ref sig .tc := ⟨.hbm, 440, rfl⟩
abbrev main_call1_v134 : Ref sig .tc := ⟨.hbm, 441, rfl⟩
abbrev main_call1_c_34 : Ref sig .tc := ⟨.hbm, 442, rfl⟩
abbrev main_call1_v135 : Ref sig .tc := ⟨.hbm, 443, rfl⟩
abbrev main_call1_v136 : Ref sig .tc := ⟨.hbm, 444, rfl⟩
abbrev main_call1_v137 : Ref sig .tc := ⟨.hbm, 445, rfl⟩
abbrev main_call1_v138 : Ref sig .tc := ⟨.hbm, 446, rfl⟩
abbrev main_call1_v139 : Ref sig .tc := ⟨.hbm, 447, rfl⟩
abbrev main_call1_v140 : Ref sig .tc := ⟨.hbm, 448, rfl⟩
abbrev main_call1_v141 : Ref sig .tc := ⟨.hbm, 449, rfl⟩
abbrev main_call1_v142 : Ref sig .tc := ⟨.hbm, 450, rfl⟩
abbrev main_call1_c_35 : Ref sig .tc := ⟨.hbm, 451, rfl⟩
abbrev main_call1_v143 : Ref sig .tc := ⟨.hbm, 452, rfl⟩
abbrev main_call1_v144 : Ref sig .tc := ⟨.hbm, 453, rfl⟩
abbrev main_call1_v145 : Ref sig .tc := ⟨.hbm, 454, rfl⟩
abbrev main_call1_c_36 : Ref sig .tc := ⟨.hbm, 455, rfl⟩
abbrev main_call1_v146 : Ref sig .tc := ⟨.hbm, 456, rfl⟩
abbrev main_call1_v147 : Ref sig .tc := ⟨.hbm, 457, rfl⟩
abbrev main_call1_c_37 : Ref sig .tc := ⟨.hbm, 458, rfl⟩
abbrev main_call1_v148 : Ref sig .tc := ⟨.hbm, 459, rfl⟩
abbrev main_call1_v149 : Ref sig .tc := ⟨.hbm, 460, rfl⟩
abbrev main_call1_v150 : Ref sig .tc := ⟨.hbm, 461, rfl⟩
abbrev main_call1_v151 : Ref sig .tc := ⟨.hbm, 462, rfl⟩
abbrev main_call1_v152 : Ref sig .tc := ⟨.hbm, 463, rfl⟩
abbrev main_call1_c_38 : Ref sig .tc := ⟨.hbm, 464, rfl⟩
abbrev main_call1_v153 : Ref sig .tc := ⟨.hbm, 465, rfl⟩
abbrev main_call1_v154 : Ref sig .tc := ⟨.hbm, 466, rfl⟩
abbrev main_call1_c_39 : Ref sig .tc := ⟨.hbm, 467, rfl⟩
abbrev main_call1_v155 : Ref sig .tc := ⟨.hbm, 468, rfl⟩
abbrev main_call1_v156 : Ref sig .tc := ⟨.hbm, 469, rfl⟩
abbrev main_call1_v157 : Ref sig .tc := ⟨.hbm, 470, rfl⟩
abbrev main_call1_v158 : Ref sig .tc := ⟨.hbm, 471, rfl⟩
abbrev main_call1_v159 : Ref sig .tc := ⟨.hbm, 472, rfl⟩
abbrev main_call1_c_40 : Ref sig .tc := ⟨.hbm, 473, rfl⟩
abbrev main_call1_v160 : Ref sig .tc := ⟨.hbm, 474, rfl⟩
abbrev main_call1_v161 : Ref sig .tc := ⟨.hbm, 475, rfl⟩
abbrev main_call1_c_41 : Ref sig .tc := ⟨.hbm, 476, rfl⟩
abbrev main_call1_v162 : Ref sig .tc := ⟨.hbm, 477, rfl⟩
abbrev main_call1_v163 : Ref sig .tc := ⟨.hbm, 478, rfl⟩
abbrev main_call1_v164 : Ref sig .tc := ⟨.hbm, 479, rfl⟩
abbrev main_call1_v165 : Ref sig .tc := ⟨.hbm, 480, rfl⟩
abbrev main_call1_v166 : Ref sig .tc := ⟨.hbm, 481, rfl⟩
abbrev main_call1_c_42 : Ref sig .tc := ⟨.hbm, 482, rfl⟩
abbrev main_call1_v167 : Ref sig .tc := ⟨.hbm, 483, rfl⟩
abbrev main_call1_v168 : Ref sig .tc := ⟨.hbm, 484, rfl⟩
abbrev main_call1_c_43 : Ref sig .tc := ⟨.hbm, 485, rfl⟩
abbrev main_call1_v169 : Ref sig .tc := ⟨.hbm, 486, rfl⟩
abbrev main_call1_v170 : Ref sig .tc := ⟨.hbm, 487, rfl⟩
abbrev main_call1_v171 : Ref sig .tc := ⟨.hbm, 488, rfl⟩
abbrev main_call1_v172 : Ref sig .tc := ⟨.hbm, 489, rfl⟩
abbrev main_call1_v173 : Ref sig .tc := ⟨.hbm, 490, rfl⟩
abbrev main_v28_0 : Ref sig .tc := ⟨.hbm, 491, rfl⟩
abbrev main_call1_v175 : Ref sig .tc := ⟨.hbm, 492, rfl⟩
abbrev main_call1_v176 : Ref sig .tc := ⟨.hbm, 493, rfl⟩
abbrev main_call1_c_44 : Ref sig .tc := ⟨.hbm, 494, rfl⟩
abbrev main_call1_v177 : Ref sig .tc := ⟨.hbm, 495, rfl⟩
abbrev main_v28_1 : Ref sig .tc := ⟨.hbm, 496, rfl⟩
abbrev main_v29 : Ref sig .tc := ⟨.hbm, 497, rfl⟩
abbrev main_c_5 : Ref sig .tc := ⟨.hbm, 498, rfl⟩
abbrev main_v30 : Ref sig .tc := ⟨.hbm, 499, rfl⟩
abbrev main_v31 : Ref sig .tc := ⟨.hbm, 500, rfl⟩
abbrev main_c_6 : Ref sig .tc := ⟨.hbm, 501, rfl⟩
abbrev main_v32 : Ref sig .tc := ⟨.hbm, 502, rfl⟩
abbrev main_v33 : Ref sig .tc := ⟨.hbm, 503, rfl⟩
abbrev main_v34 : Ref sig .tc := ⟨.hbm, 504, rfl⟩
abbrev main_cst : Ref sig .tc := ⟨.hbm, 505, rfl⟩
abbrev main_v35 : Ref sig .tc := ⟨.hbm, 506, rfl⟩
abbrev main_v36 : Ref sig .tc := ⟨.hbm, 507, rfl⟩
abbrev main_cst_7 : Ref sig .tc := ⟨.hbm, 508, rfl⟩
abbrev main_call2_v0 : Ref sig .tc := ⟨.hbm, 509, rfl⟩
abbrev main_v37 : Ref sig .tc := ⟨.hbm, 510, rfl⟩
abbrev main_v38 : Ref sig .tc := ⟨.hbm, 511, rfl⟩
abbrev main_v39 : Ref sig .tc := ⟨.hbm, 512, rfl⟩
abbrev main_v40 : Ref sig .tc := ⟨.hbm, 513, rfl⟩
abbrev main_v41 : Ref sig .tc := ⟨.hbm, 514, rfl⟩
abbrev main_v42 : Ref sig .tc := ⟨.hbm, 515, rfl⟩
abbrev main_v43 : Ref sig .tc := ⟨.hbm, 516, rfl⟩
abbrev main_v44 : Ref sig .tc := ⟨.hbm, 517, rfl⟩
abbrev main_call3_v0 : Ref sig .tc := ⟨.hbm, 518, rfl⟩
abbrev main_call3_cst : Ref sig .tc := ⟨.hbm, 519, rfl⟩
abbrev main_call3_c : Ref sig .tc := ⟨.hbm, 520, rfl⟩
abbrev main_call3_v1_0 : Ref sig .tc := ⟨.hbm, 521, rfl⟩
abbrev main_v45 : Ref sig .tc := ⟨.hbm, 522, rfl⟩

abbrev nD : Nat := 1
abbrev τ : Topo := Topo.v7x

variable {F : FTy → Type} [FloatOps F]
-- ==== Proof.Block.lean ====
/- What one grid point of the kernel computes, as functions of the vectors it reads: the cipher, the Gumbel score
   of 512 columns, and the running maximum a lane keeps. -/
module

public import proofs.«01_k».proof.Proof.Gen.KernelIdeal

@[expose] public section

noncomputable section

namespace Cert.KernelIdeal.Block

open Cert.KernelIdeal Cert.KernelIdeal.Gen Idealize.ShloMosaic Idealize.SL.Sem

variable {F : FTy → Type} [FloatOps F]

/-- 512 columns of words. -/
abbrev Words : Type := IVec S16x512 32
/-- A best score and where it was found, per row and lane. -/
abbrev Best (F : FTy → Type) [FloatOps F] : Type := FVec F S16x128 .f32 × IVec S16x128 32

/-- The words rotated left by `l` places, `r` being `32 - l`. -/
def rot (l r : BitVec 32) (x : Words) : Words :=
  ori (shli x (broadcast S16x512 l)) (shrui x (broadcast S16x512 r))

/-- One round of the cipher. -/
def round (l r : BitVec 32) (p : Words × Words) : Words × Words :=
  (addi p.1 p.2, xori (rot l r p.2) (addi p.1 p.2))

/-- The four rounds of odd number. -/
def roundsA (p : Words × Words) : Words × Words :=
  round 6#32 26#32 (round 26#32 6#32 (round 15#32 17#32 (round 13#32 19#32 p)))

/-- The four rounds of even number. -/
def roundsB (p : Words × Words) : Words × Words :=
  round 24#32 8#32 (round 16#32 16#32 (round 29#32 3#32 (round 17#32 15#32 p)))

/-- The key words `a` and `b` and the count `n` added after four rounds. -/
def inject (a b n : BitVec 32) (p : Words × Words) : Words × Words :=
  (addi p.1 (broadcast S16x512 a), addi (addi p.2 (broadcast S16x512 b)) (broadcast S16x512 n))

/-- The twenty rounds under the key words `a`, `b`, `c`, on a zero word and the word `x`. -/
def cipher (a b c : BitVec 32) (x : Words) : Words × Words :=
  inject c a 5#32 (roundsA (inject b c 4#32 (roundsB (inject a b 3#32 (roundsA (inject c a 2#32 (roundsB
    (inject b c 1#32 (roundsA (broadcast S16x512 a, addi x (broadcast S16x512 b)))))))))))

/-- The key words of a draw: the two words folded in and their parity word. -/
def key : Fin 4 → BitVec 32 × BitVec 32 × BitVec 32
  | 0 => (1832780943#32, 270669613#32, 1724713080#32)
  | 1 => (64467757#32, 2916123636#32, 3050711811#32)
  | 2 => (2465931498#32, 255383827#32, 2249384483#32)
  | 3 => (3134548294#32, 894150801#32, 2488261133#32)

/-- The random words of draw `d` at the places `x`. -/
def bits (d : Fin 4) (x : Words) : Words :=
  xori (cipher (key d).1 (key d).2.1 (key d).2.2 x).1 (cipher (key d).1 (key d).2.1 (key d).2.2 x).2

/-- A uniform draw in `[0, 1)` off the random words, raised to the least normal number. -/
def unif (w : Words) : FVec F S16x512 .f32 :=
  maximumf (broadcast S16x512 (Scalar.ofBits .f32 0x00800000#32))
    (subf (bitcastToFloat .f32 (ori (shrui w (broadcast S16x512 9#32)) (broadcast S16x512 1065353216#32)))
      (broadcast S16x512 (Scalar.ofBits .f32 0x3F800000#32)))

/-- Minus the logarithm. -/
def nlog (u : FVec F S16x512 .f32) : FVec F S16x512 .f32 :=
  subf (broadcast S16x512 (Scalar.ofBits .f32 0x00000000#32)) (log u)

/-- The scores of draw `d`: the entries plus the Gumbel noise of their places. -/
def score (d : Fin 4) (x : FVec F S16x512 .f32) (p : Words) : FVec F S16x512 .f32 :=
  addf x (nlog (nlog (unif (bits d p))))

/-- One candidate vector against the best so far: the greater score wins, the earlier one on a tie. -/
def better (s : FVec F S16x128 .f32) (at_ : BitVec 32) (b : Best F) : Best F :=
  (select (cmpf .ogt s b.1) s b.1, select (cmpf .ogt s b.1) (broadcast S16x128 at_) b.2)

/-- The first column of the 128 at `o` inside the 512 at `s` of block `j`. -/
def column (j s o : BitVec 32) : BitVec 32 :=
  Scalar.addi (Scalar.addi (Scalar.muli j 4096#32) s) o

/-- The four candidate vectors of 512 columns, in order. -/
def better4 (j s : BitVec 32) (v : FVec F S16x512 .f32) (b : Best F) : Best F :=
  better (extractStridedSlice S16x128 ![0, 384] v slices_S16x512_o0_384_S16x128) (column j s 384#32)
  (better (extractStridedSlice S16x128 ![0, 256] v slices_S16x512_o0_256_S16x128) (column j s 256#32)
  (better (extractStridedSlice S16x128 ![0, 128] v slices_S16x512_o0_128_S16x128) (column j s 128#32)
  (better (extractStridedSlice S16x128 ![0, 0] v slices_S16x512_o0_0_S16x128) (column j s 0#32) b)))

/-- The 512 columns at `n` of a block, read for draw `d`. -/
def step (d : Fin 4) (j : BitVec 32) (X : FVec F S16x4096 .f32) (P : IVec S16x4096 32)
    (n : Nat) (h : S16x4096.Slices ![0, n] S16x512) (b : Best F) : Best F :=
  better4 j (BitVec.ofNat 32 n)
    (score d (extractStridedSlice S16x512 ![0, n] X h) (extractStridedSlice S16x512 ![0, n] P h)) b

/-- A whole block of 4096 columns, read for draw `d`. -/
def block (d : Fin 4) (j : BitVec 32) (X : FVec F S16x4096 .f32) (P : IVec S16x4096 32) (b : Best F) : Best F :=
  step d j X P 3584 slices_S16x4096_o0_3584_S16x512
  (step d j X P 3072 slices_S16x4096_o0_3072_S16x512
  (step d j X P 2560 slices_S16x4096_o0_2560_S16x512
  (step d j X P 2048 slices_S16x4096_o0_2048_S16x512
  (step d j X P 1536 slices_S16x4096_o0_1536_S16x512
  (step d j X P 1024 slices_S16x4096_o0_1024_S16x512
  (step d j X P 512 slices_S16x4096_o0_512_S16x512
  (step d j X P 0 slices_S16x4096_o0_0_S16x512 b)))))))

/-- The columns of block `j`. -/
def cols (j : BitVec 32) : IVec S16x4096 32 :=
  addi (iota .tc S16x4096 32 [1] iota_S16x4096_d1_w32) (broadcast S16x4096 (Scalar.muli j 4096#32))

/-- The places, in row-major order, of the entries of block `j` in the rows of half `i`. -/
def places (i j : BitVec 32) : IVec S16x4096 32 :=
  addi (muli (addi (iota .tc S16x4096 32 [0] iota_S16x4096_d0_w32) (broadcast S16x4096 (Scalar.muli i 16#32)))
    (broadcast S16x4096 1000000#32)) (cols j)

/-- The block's entries, with minus infinity past the last column. -/
def masked (j : BitVec 32) (X : FVec F S16x4096 .f32) : FVec F S16x4096 .f32 :=
  select (cmpi .slt (cols j) (broadcast S16x4096 1000000#32)) X
    (broadcast S16x4096 (Scalar.ofBits .f32 0xFF800000#32))

/-- What the lanes of draw `d` hold after a block. -/
def lanes (i j : BitVec 32) (X : FVec F S16x4096 .f32) (d : Fin 4) (a : FVec F S1x16x128 .f32)
    (k : IVec S1x16x128 32) : Best F :=
  block d j (masked j X) (places i j)
    (shapeCast S16x128 a shapeCasts_S1x16x128_S16x128, shapeCast S16x128 k shapeCasts_S1x16x128_S16x128)

/-- The column a row draws: the least among the columns of the lanes that reach the row's maximum. -/
def drawn (a : FVec F S1x16x128 .f32) (k : IVec S1x16x128 32) : IVec S1x1x16 32 :=
  shapeCast S1x1x16 (multiReductionI .minsi [1] S16
    (select (cmpf .oeq (shapeCast S16x128 a shapeCasts_S1x16x128_S16x128)
        (broadcastTo S16x128 (shapeCast S16x1 (multiReduction .maximumf [1] S16
          (shapeCast S16x128 a shapeCasts_S1x16x128_S16x128) 0xFF800000#32 reduces_S16x128_S16 (.inl rfl) rfl)
          shapeCasts_S16_S16x1) broadcasts_S16x1_S16x128))
      (addi (shapeCast S16x128 k shapeCasts_S1x16x128_S16x128) (iota .tc S16x128 32 [1] iota_S16x128_d1_w32))
      (broadcast S16x128 2147483647#32)) 2147483647#32 reduces_S16x128_S16 rfl) shapeCasts_S16_S1x1x16

end Cert.KernelIdeal.Block

end
-- ==== Proof.Body.lean ====
/- The kernel's body as a short program: the memory operations of `cc0__lambda_`, in order, over the functions of
   the Block module. -/
module

public import proofs.«01_k».proof.Proof.Block

@[expose] public section

noncomputable section

namespace Cert.KernelIdeal.Block

open Cert.KernelIdeal Cert.KernelIdeal.Gen Idealize.ShloMosaic Idealize.SL.Sem

variable {F : FTy → Type} [FloatOps F]

/-- A program of the kernel's body. -/
abbrev Run (F : FTy → Type) [FloatOps F] (α : Type) : Type _ := Prog (TpuEff nD τ sig (Elt F) Λ₀ .tc) α

/-- Row `o` of the scores read. -/
abbrev loadV (o : Fin 3 → Nat) (h : ∀ a, o a + S1x16x128.size a ≤ S4x16x128.size a)
    (arg4 : Memref sig .tc .vmem S4x16x128 .f32) : Run F (Vec F S1x16x128 .f32) :=
  Prog.lift (.load arg4 (Rect.unit (s := S4x16x128) o S1x16x128.size h).toLoadRect (View.loadsAt_vmem h_S1x16x128))

/-- Row `o` of the columns read. -/
abbrev loadK (o : Fin 3 → Nat) (h : ∀ a, o a + S1x16x128.size a ≤ S4x16x128.size a)
    (arg5 : Memref sig .tc .vmem S4x16x128 .i32) : Run F (Vec F S1x16x128 .i32) :=
  Prog.lift (.load arg5 (Rect.unit (s := S4x16x128) o S1x16x128.size h).toLoadRect (View.loadsAt_vmem h_S1x16x128))

/-- Row `o` of both scratches written with a draw's lanes. -/
abbrev store2 (o : Fin 3 → Nat) (h : ∀ a, o a + S1x16x128.size a ≤ S4x16x128.size a)
    (arg4 : Memref sig .tc .vmem S4x16x128 .f32) (arg5 : Memref sig .tc .vmem S4x16x128 .i32) (b : Best F) :
    Run F PUnit := do
  let _ ← loadV o h arg4
  Prog.lift (.store arg4 (Rect.unit (s := S4x16x128) o S1x16x128.size h)
    (shapeCast S1x16x128 b.1 shapeCasts_S16x128_S1x16x128) Finset.univ (View.stores_vmem_bits_univ h_S1x16x128 rfl) (.inl rfl))
  let _ ← loadK o h arg5
  Prog.lift (.store arg5 (Rect.unit (s := S4x16x128) o S1x16x128.size h)
    (shapeCast S1x16x128 b.2 shapeCasts_S16x128_S1x16x128) Finset.univ (View.stores_vmem_bits_univ h_S1x16x128 rfl) (.inl rfl))

/-- Both scratches set before the first block: minus infinity, and column zero. -/
abbrev init (arg4 : Memref sig .tc .vmem S4x16x128 .f32) (arg5 : Memref sig .tc .vmem S4x16x128 .i32) :
    Run F PUnit := do
  let _ ← Prog.lift (.load arg4 (Rect.unit (s := S4x16x128) ![0, 0, 0] S4x16x128.size inb_S4x16x128_S4x16x128_0_0_0).toLoadRect (View.loadsAt_vmem h_S4x16x128))
  Prog.lift (.store arg4 (Rect.unit (s := S4x16x128) ![0, 0, 0] S4x16x128.size inb_S4x16x128_S4x16x128_0_0_0)
    (shapeCast S4x16x128 (broadcast S4x16x128 (Scalar.ofBits .f32 0xFF800000#32 : F .f32)) shapeCasts_S4x16x128_S4x16x128)
    Finset.univ (View.stores_vmem_bits_univ h_S4x16x128 rfl) (.inl rfl))
  let _ ← Prog.lift (.load arg5 (Rect.unit (s := S4x16x128) ![0, 0, 0] S4x16x128.size inb_S4x16x128_S4x16x128_0_0_0).toLoadRect (View.loadsAt_vmem h_S4x16x128))
  Prog.lift (.store arg5 (Rect.unit (s := S4x16x128) ![0, 0, 0] S4x16x128.size inb_S4x16x128_S4x16x128_0_0_0)
    (shapeCast S4x16x128 (broadcast S4x16x128 0#32) shapeCasts_S4x16x128_S4x16x128)
    Finset.univ (View.stores_vmem_bits_univ h_S4x16x128 rfl) (.inl rfl))

/-- One draw's columns written out after the last block. -/
abbrev flush1 (o : Fin 3 → Nat) (h : ∀ a, o a + S1x16x128.size a ≤ S4x16x128.size a)
    (o' : Fin 3 → Nat) (h' : ∀ a, o' a + S1x1x16.size a ≤ S1x4x16.size a)
    (arg3 : Memref sig .tc .vmem S1x4x16 .i32) (arg4 : Memref sig .tc .vmem S4x16x128 .f32)
    (arg5 : Memref sig .tc .vmem S4x16x128 .i32) : Run F PUnit := do
  let a ← loadV o h arg4
  let k ← loadK o h arg5
  let _ ← Prog.lift (.load arg3 (Rect.unit (s := S1x4x16) o' S1x1x16.size h').toLoadRect (View.loadsAt_vmem h_S1x1x16))
  Prog.lift (.store arg3 (Rect.unit (s := S1x4x16) o' S1x1x16.size h') (drawn a k) Finset.univ (View.stores_vmem_bits_univ h_S1x1x16 rfl) (.inl rfl))

/-- The body of the kernel. -/
def body (i : grid0.Coords) (arg2 : Memref sig .tc .vmem S16x4096 .f32) (arg3 : Memref sig .tc .vmem S1x4x16 .i32)
    (arg4 : Memref sig .tc .vmem S4x16x128 .f32) (arg5 : Memref sig .tc .vmem S4x16x128 .i32) : Run F PUnit := do
  if _h : Scalar.cmpi .ne (Scalar.extui (Scalar.cmpi .eq (BitVec.ofNat 32 (i 1).val) 0#32)) 0#32 = 1#1 then
    init arg4 arg5
  else pure ⟨⟩
  let x : Vec F S16x4096 .f32 ← Prog.lift (.load arg2 (Rect.unit (s := S16x4096) ![0, 0] S16x4096.size inb_S16x4096_S16x4096_0_0).toLoadRect (View.loadsAt_vmem h_S16x4096))
  let a0 ← loadV ![0, 0, 0] inb_S4x16x128_S1x16x128_0_0_0 arg4
  let a1 ← loadV ![1, 0, 0] inb_S4x16x128_S1x16x128_1_0_0 arg4
  let a2 ← loadV ![2, 0, 0] inb_S4x16x128_S1x16x128_2_0_0 arg4
  let a3 ← loadV ![3, 0, 0] inb_S4x16x128_S1x16x128_3_0_0 arg4
  let k0 ← loadK ![0, 0, 0] inb_S4x16x128_S1x16x128_0_0_0 arg5
  let k1 ← loadK ![1, 0, 0] inb_S4x16x128_S1x16x128_1_0_0 arg5
  let k2 ← loadK ![2, 0, 0] inb_S4x16x128_S1x16x128_2_0_0 arg5
  let k3 ← loadK ![3, 0, 0] inb_S4x16x128_S1x16x128_3_0_0 arg5
  store2 ![0, 0, 0] inb_S4x16x128_S1x16x128_0_0_0 arg4 arg5 (lanes (BitVec.ofNat 32 (i 0).val) (BitVec.ofNat 32 (i 1).val) x 0 a0 k0)
  store2 ![1, 0, 0] inb_S4x16x128_S1x16x128_1_0_0 arg4 arg5 (lanes (BitVec.ofNat 32 (i 0).val) (BitVec.ofNat 32 (i 1).val) x 1 a1 k1)
  store2 ![2, 0, 0] inb_S4x16x128_S1x16x128_2_0_0 arg4 arg5 (lanes (BitVec.ofNat 32 (i 0).val) (BitVec.ofNat 32 (i 1).val) x 2 a2 k2)
  store2 ![3, 0, 0] inb_S4x16x128_S1x16x128_3_0_0 arg4 arg5 (lanes (BitVec.ofNat 32 (i 0).val) (BitVec.ofNat 32 (i 1).val) x 3 a3 k3)
  if _h : k0_cond2 i = 1#1 then do
    flush1 ![0, 0, 0] inb_S4x16x128_S1x16x128_0_0_0 ![0, 0, 0] inb_S1x4x16_S1x1x16_0_0_0 arg3 arg4 arg5
    flush1 ![1, 0, 0] inb_S4x16x128_S1x16x128_1_0_0 ![0, 1, 0] inb_S1x4x16_S1x1x16_0_1_0 arg3 arg4 arg5
    flush1 ![2, 0, 0] inb_S4x16x128_S1x16x128_2_0_0 ![0, 2, 0] inb_S1x4x16_S1x1x16_0_2_0 arg3 arg4 arg5
    flush1 ![3, 0, 0] inb_S4x16x128_S1x16x128_3_0_0 ![0, 3, 0] inb_S1x4x16_S1x1x16_0_3_0 arg3 arg4 arg5
  else pure ⟨⟩
  pure ⟨⟩

end Cert.KernelIdeal.Block

end
-- ==== Proof.BodyEq.lean ====
/- The printed body is the short program of the Body module. -/
module

public import proofs.«01_k».proof.Proof.Body

@[expose] public section

set_option maxRecDepth 1000000

noncomputable section

namespace Cert.KernelIdeal.Block

open Cert.KernelIdeal Cert.KernelIdeal.Gen Idealize.ShloMosaic Idealize.SL.Sem

variable {F : FTy → Type} [FloatOps F]

set_option maxHeartbeats 40000000 in
/-- The printed body, its values named by the functions of the Block module. -/
theorem cc0_eq
    (i : grid0.Coords) (arg2 : Memref sig .tc .vmem S16x4096 .f32) (harg2 : arg2.IsWhole) (arg3 : Memref sig .tc
    .vmem S1x4x16 .i32) (harg3 : arg3.IsWhole) (arg4 : Memref sig .tc .vmem S4x16x128 .f32) (harg4 :
    arg4.IsWhole) (arg5 : Memref sig .tc .vmem S4x16x128 .i32) (harg5 : arg5.IsWhole) :
    cc0__lambda_ (F := F) i arg2 harg2 arg3 harg3 arg4 harg4 arg5 harg5 = body i arg2 arg3 arg4 arg5 := by
  by_cases h : Scalar.cmpi .ne (Scalar.extui (Scalar.cmpi .eq (BitVec.ofNat 32 (i 1).val) 0#32)) 0#32 = 1#1
  all_goals
    simp (maxSteps := 100000000) only [
    cc0__lambda_, body, k0_part1, k0_part2, k0_part3, k0_part4, k0_part5, k0_part6, k0_part7, k0_part8,
    k0_part9, k0_part10, k0_part11, k0_part12, k0_part13, k0_part14, k0_part15, k0_part16, k0_part17, k0_part18,
    k0_part19, k0_part20, k0_part21, k0_part22, k0_part23, k0_part24, k0_part25, k0_part26, k0_part27,
    k0_part28, k0_part29, k0_part30, k0_part31, k0_part32, k0_part33, k0_part34, k0_part35, k0_part36,
    k0_part37, k0_part38, k0_part39, k0_part40, k0_part41, k0_part42, k0_part43, k0_part44, k0_part45,
    k0_part46, k0_part47, k0_part48, k0_part49, k0_part50, k0_part51, k0_part52, k0_part53, k0_part54,
    k0_part55, k0_part56, k0_part57, k0_part58, k0_part59, k0_part60, k0_part61, k0_part62, k0_part63,
    k0_part64, k0_part65, k0_part66, k0_part67, k0_part68, k0_part69, k0_part70, k0_part71, k0_part72,
    k0_part73, k0_part74, k0_part75, k0_part76, k0_part77, k0_part78, k0_part79, k0_part80, k0_part81,
    k0_part82, k0_part83, k0_part84, k0_part85, k0_part86, k0_part87, k0_part88, k0_part89, k0_part90,
    k0_part91, k0_part92, k0_part93, k0_part94, k0_part95, k0_part96, k0_part97, k0_part98, k0_part99,
    k0_part100, k0_part101, k0_part102, k0_part103, k0_part104, k0_part105, k0_part106, k0_part107, k0_part108,
    k0_part109, k0_part110, k0_part111, k0_part112, k0_part113, k0_part114, k0_part115, k0_part116, k0_part117,
    k0_part118, k0_part119, k0_part120, k0_part121, k0_part122, k0_part123, k0_part124, k0_part125, k0_part126,
    k0_part127, k0_part128, k0_part129, k0_part130, k0_part131, k0_part132, k0_part133, k0_part134, k0_part135,
    k0_part136, k0_part137, k0_part138, k0_part139, k0_part140, k0_part141, k0_part142, k0_part143, k0_part144,
    k0_part145, k0_part146, k0_part147, k0_part148, k0_part149, k0_part150, k0_part151, k0_part152, k0_part153,
    k0_part154, k0_part155, k0_part156, k0_part157, k0_part158, k0_part159, k0_part160, k0_part161, k0_part162,
    k0_part163, k0_part164, pure_bind, bind_assoc, lanes, block, step, better4, places, cols, masked, drawn,
    score, nlog, unif, bits, key, cipher, roundsA, roundsB, inject, round, rot, better, column,
    h, dif_pos, dif_neg, not_false_iff]
    rfl

end Cert.KernelIdeal.Block

end
-- ==== Proof.Rows.lean ====
/- The kernel's scratches and its result block as four rows, one for each draw, and the loads and stores of whole
   rows on them. -/
module

public import proofs.«01_k».proof.Proof.Body
public import proofs.«01_k».proof.Proof.Gen.KernelIdeal.Frame
public import Idealize.ShloMosaic.Lib.Tactic

@[expose] public section

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- An assertion about the machine the kernel runs on. -/
abbrev Asn (F : FTy → Type) [FloatOps F] : Type _ := sProp (MT nD τ sig Unit (Elt F) ℕ (UR sig nD τ) ℕ)

/-- The kernel's variants: none. -/
abbrev 𝒱₀ : Variants := Variants.none

/-! ## Rows -/

section rows

variable {α : Type}

/-- The four rows of a scratch put together. -/
def rows (A : Fin 4 → S1x16x128.Idx → α) : S4x16x128.Idx → α :=
  fun p => A (p 0) fun | 0 => (0 : Fin 1) | 1 => p 1 | 2 => p 2

/-- The four rows of a scratch. -/
def unrows (X : S4x16x128.Idx → α) : Fin 4 → S1x16x128.Idx → α :=
  fun d q => X fun | 0 => d | 1 => q 1 | 2 => q 2

/-- The rows put together again. -/
theorem rows_unrows (X : S4x16x128.Idx → α) : rows (unrows X) = X := by
  funext p; unfold rows unrows; congr 1; funext a; fin_cases a <;> rfl

/-- The four rows of the result block put together. -/
def outs (B : Fin 4 → S1x1x16.Idx → α) : S1x4x16.Idx → α :=
  fun p => B (p 1) fun | 0 => (0 : Fin 1) | 1 => (0 : Fin 1) | 2 => p 2

/-- The four rows of the result block. -/
def unouts (X : S1x4x16.Idx → α) : Fin 4 → S1x1x16.Idx → α :=
  fun d q => X fun | 0 => (0 : Fin 1) | 1 => d | 2 => q 2

/-- The result's rows put together again. -/
theorem outs_unouts (X : S1x4x16.Idx → α) : outs (unouts X) = X := by
  funext p; unfold outs unouts; congr 1; funext a
  fin_cases a
  · exact (Subsingleton.elim (α := Fin 1) _ _)
  · rfl
  · rfl

/-- A function into the draws is what it is at the four of them. -/
theorem update4 {β : Type} (A B : Fin 4 → β) :
    Function.update (Function.update (Function.update (Function.update A 0 (B 0)) 1 (B 1)) 2 (B 2)) 3 (B 3) = B := by
  funext d; fin_cases d <;> rfl

end rows

/-! ## Loads and stores on a memref's contents -/

variable (c : Dev nD) (E : Set ℕ) (K : PUnit.{1} → Asn F)

/-- A load through a rectangle reads the contents under it. -/
theorem owns_load {sp : CoreSpace} {s : Shape} {e : EltTy} (m : Memref sig .tc sp s e) (r : LoadRect s)
    (hl : m.view.LoadsAt r) (X : s.Idx → Elt F e)
    (k : (r.shape.Idx → Elt F e) → Run F PUnit) :
    owns (c : Thread nD τ) m fullShare X
      ⊢ iprop((owns (c : Thread nD τ) m fullShare X -∗ wp frame (wpE (defs₀ (F := F)) 𝒱₀ c none) E (k fun x => X (r.idx x)) K)
        -∗ wp frame (wpE (defs₀ (F := F)) 𝒱₀ c none) E (.op (.load m r hl) k) K) := by
  unfold owns
  iintro ⟨%f, %hf, H⟩ Hk
  iapply (wp_load 𝒱₀ (c : Thread nD τ) none E (m := m) (r := r) (View.setOn_subset_set _ _)) $$ H
  iintro H
  rw [show m.view.readAt (Elt F) r f = fun x => X (r.idx x) from by
    funext x; rw [View.readAt_apply, hf]]
  iapply Hk
  iexists f; isplitr; · ipureintro; exact hf
  iexact H

/-- A store through a rectangle leaves the payload under it and the contents elsewhere. -/
theorem owns_store {sp : CoreSpace} {s : Shape} {e : EltTy} (m : Memref sig .tc sp s e) (r : Rect s)
    (w : r.shape.Idx → Elt F e) (hx : (m.access r).Stores Finset.univ) (hm) (X Y : s.Idx → Elt F e)
    (hin : ∀ x, Y (r.emb x) = w x) (hout : ∀ y, y ∉ r.set → Y y = X y)
    (k : PUnit → Run F PUnit) :
    owns (c : Thread nD τ) m fullShare X
      ⊢ iprop((owns (c : Thread nD τ) m fullShare Y -∗ wp frame (wpE (defs₀ (F := F)) 𝒱₀ c none) E (k ⟨⟩) K)
        -∗ wp frame (wpE (defs₀ (F := F)) 𝒱₀ c none) E (.op (.store m r w Finset.univ hx hm) k) K) := by
  unfold owns
  iintro ⟨%f, %hf, H⟩ Hk
  iapply (wp_store 𝒱₀ (c : Thread nD τ) none E (m := m) (r := r)
    ((View.setOn_subset_set _ _).trans (View.set_slice_subset _ _))) $$ H
  iintro H
  iapply Hk
  iexists _; isplitr
  swap; · iexact H
  ipureintro
  funext y
  by_cases hy : y ∈ r.set
  · rw [← Rect.map_emb_univ] at hy
    obtain ⟨x, _, rfl⟩ := Finset.mem_map.mp hy
    exact (View.read_slice_write_emb r f w (Finset.mem_univ x)).trans (hin x).symm
  · rw [hout y hy, ← hf]
    exact View.read_slice_write_of_not_mem r f w _ (by rwa [Rect.map_emb_univ])

/-! ## Whole rows -/

/-- Where an index of row `d` lies among the four rows. -/
theorem idx_row (o : Fin 3 → Nat) (h : ∀ a, o a + S1x16x128.size a ≤ S4x16x128.size a) (d : Fin 4)
    (ho : o = ![d.val, 0, 0]) (x : S1x16x128.Idx) :
    (Rect.unit (s := S4x16x128) o S1x16x128.size h).emb x = (fun | 0 => d | 1 => x 1 | 2 => x 2 : S4x16x128.Idx) := by
  subst ho
  have h0 : (x 0).val = 0 := by have := (x 0).isLt; change _ < 1 at this; omega
  funext a; fin_cases a
  · exact Fin.ext (by change d.val + 1 * (x 0).val = d.val; omega)
  · exact Fin.ext (by change 0 + 1 * (x 1).val = (x 1).val; omega)
  · exact Fin.ext (by change 0 + 1 * (x 2).val = (x 2).val; omega)

/-- The indices of row `d` are those of first coordinate `d`. -/
theorem mem_row (o : Fin 3 → Nat) (h : ∀ a, o a + S1x16x128.size a ≤ S4x16x128.size a) (d : Fin 4)
    (ho : o = ![d.val, 0, 0]) (y : S4x16x128.Idx) :
    y ∉ (Rect.unit (s := S4x16x128) o S1x16x128.size h).set → y 0 ≠ d := by
  subst ho
  rw [Rect.mem_set_unit]
  intro hn he
  apply hn
  intro a
  fin_cases a
  · subst he; exact ⟨le_refl _, Nat.lt_succ_self _⟩
  · exact ⟨Nat.zero_le _, by change (y 1).val < 0 + 16; have := (y 1).isLt; change _ < 16 at this; omega⟩
  · exact ⟨Nat.zero_le _, by change (y 2).val < 0 + 128; have := (y 2).isLt; change _ < 128 at this; omega⟩

/-- Row `d` of four rows put together. -/
theorem rows_at {α : Type} (A : Fin 4 → S1x16x128.Idx → α) (d : Fin 4) (x : S1x16x128.Idx) :
    rows A (fun | 0 => d | 1 => x 1 | 2 => x 2 : S4x16x128.Idx) = A d x := by
  unfold rows
  congr 1; funext a
  fin_cases a
  · exact (Subsingleton.elim (α := Fin 1) _ _)
  · rfl
  · rfl

/-- A load of row `d`. -/
theorem rows_load {e : EltTy} (m : Memref sig .tc .vmem S4x16x128 e) (o : Fin 3 → Nat)
    (h : ∀ a, o a + S1x16x128.size a ≤ S4x16x128.size a) (hl) (d : Fin 4) (ho : o = ![d.val, 0, 0])
    (A : Fin 4 → S1x16x128.Idx → Elt F e) (k : (S1x16x128.Idx → Elt F e) → Run F PUnit) :
    owns (c : Thread nD τ) m fullShare (rows A)
      ⊢ iprop((owns (c : Thread nD τ) m fullShare (rows A) -∗ wp frame (wpE (defs₀ (F := F)) 𝒱₀ c none) E (k (A d)) K)
        -∗ wp frame (wpE (defs₀ (F := F)) 𝒱₀ c none) E
          (.op (.load m (Rect.unit (s := S4x16x128) o S1x16x128.size h).toLoadRect hl) k) K) := by
  have hr := owns_load c E K m (Rect.unit (s := S4x16x128) o S1x16x128.size h).toLoadRect hl (rows A) k
  rwa [show (fun x => rows A ((Rect.unit (s := S4x16x128) o S1x16x128.size h).toLoadRect.idx x)) = A d from
    funext fun x => (congrArg (rows A) (idx_row o h d ho x)).trans (rows_at A d x)] at hr

/-- A store of row `d`. -/
theorem rows_store {e : EltTy} (m : Memref sig .tc .vmem S4x16x128 e) (o : Fin 3 → Nat)
    (h : ∀ a, o a + S1x16x128.size a ≤ S4x16x128.size a) (d : Fin 4) (ho : o = ![d.val, 0, 0])
    (A : Fin 4 → S1x16x128.Idx → Elt F e) (w : S1x16x128.Idx → Elt F e) (hx) (hm) (k : PUnit → Run F PUnit) :
    owns (c : Thread nD τ) m fullShare (rows A)
      ⊢ iprop((owns (c : Thread nD τ) m fullShare (rows (Function.update A d w))
          -∗ wp frame (wpE (defs₀ (F := F)) 𝒱₀ c none) E (k ⟨⟩) K)
        -∗ wp frame (wpE (defs₀ (F := F)) 𝒱₀ c none) E
          (.op (.store m (Rect.unit (s := S4x16x128) o S1x16x128.size h) w Finset.univ hx hm) k) K) := by
  have hin : ∀ x, rows (Function.update A d w) ((Rect.unit (s := S4x16x128) o S1x16x128.size h).emb x) = w x :=
    fun x => by rw [idx_row o h d ho x, rows_at, Function.update_self]
  have hout : ∀ y, y ∉ (Rect.unit (s := S4x16x128) o S1x16x128.size h).set →
      rows (Function.update A d w) y = rows A y :=
    fun y hy => by unfold rows; exact congrFun (Function.update_of_ne (mem_row o h d ho y hy) w A) _
  exact owns_store c E K m (Rect.unit (s := S4x16x128) o S1x16x128.size h) w hx hm (rows A)
    (rows (Function.update A d w)) hin hout k

/-- Where an index of the result block's row `d` lies. -/
theorem idx_out (o : Fin 3 → Nat) (h : ∀ a, o a + S1x1x16.size a ≤ S1x4x16.size a) (d : Fin 4)
    (ho : o = ![0, d.val, 0]) (x : S1x1x16.Idx) :
    (Rect.unit (s := S1x4x16) o S1x1x16.size h).emb x = (fun | 0 => (0 : Fin 1) | 1 => d | 2 => x 2 : S1x4x16.Idx) := by
  subst ho
  have h1 : (x 1).val = 0 := by have := (x 1).isLt; change _ < 1 at this; omega
  funext a; fin_cases a
  · exact (Subsingleton.elim (α := Fin 1) _ _)
  · exact Fin.ext (by change d.val + 1 * (x 1).val = d.val; omega)
  · exact Fin.ext (by change 0 + 1 * (x 2).val = (x 2).val; omega)

/-- The indices of the result block's row `d` are those of second coordinate `d`. -/
theorem mem_out (o : Fin 3 → Nat) (h : ∀ a, o a + S1x1x16.size a ≤ S1x4x16.size a) (d : Fin 4)
    (ho : o = ![0, d.val, 0]) (y : S1x4x16.Idx) :
    y ∉ (Rect.unit (s := S1x4x16) o S1x1x16.size h).set → y 1 ≠ d := by
  subst ho
  rw [Rect.mem_set_unit]
  intro hn he
  apply hn
  intro a
  fin_cases a
  · exact ⟨Nat.zero_le _, by change (y 0).val < 0 + 1; have := (y 0).isLt; change _ < 1 at this; omega⟩
  · subst he; exact ⟨le_refl _, Nat.lt_succ_self _⟩
  · exact ⟨Nat.zero_le _, by change (y 2).val < 0 + 16; have := (y 2).isLt; change _ < 16 at this; omega⟩

/-- Row `d` of the result block put together. -/
theorem outs_at {α : Type} (B : Fin 4 → S1x1x16.Idx → α) (d : Fin 4) (x : S1x1x16.Idx) :
    outs B (fun | 0 => (0 : Fin 1) | 1 => d | 2 => x 2 : S1x4x16.Idx) = B d x := by
  unfold outs
  congr 1; funext a
  fin_cases a
  · exact (Subsingleton.elim (α := Fin 1) _ _)
  · exact (Subsingleton.elim (α := Fin 1) _ _)
  · rfl

/-- A store of the result block's row `d`. -/
theorem outs_store {e : EltTy} (m : Memref sig .tc .vmem S1x4x16 e) (o : Fin 3 → Nat)
    (h : ∀ a, o a + S1x1x16.size a ≤ S1x4x16.size a) (d : Fin 4) (ho : o = ![0, d.val, 0])
    (B : Fin 4 → S1x1x16.Idx → Elt F e) (w : S1x1x16.Idx → Elt F e) (hx) (hm) (k : PUnit → Run F PUnit) :
    owns (c : Thread nD τ) m fullShare (outs B)
      ⊢ iprop((owns (c : Thread nD τ) m fullShare (outs (Function.update B d w))
          -∗ wp frame (wpE (defs₀ (F := F)) 𝒱₀ c none) E (k ⟨⟩) K)
        -∗ wp frame (wpE (defs₀ (F := F)) 𝒱₀ c none) E
          (.op (.store m (Rect.unit (s := S1x4x16) o S1x1x16.size h) w Finset.univ hx hm) k) K) := by
  have hin : ∀ x, outs (Function.update B d w) ((Rect.unit (s := S1x4x16) o S1x1x16.size h).emb x) = w x :=
    fun x => by rw [idx_out o h d ho x, outs_at, Function.update_self]
  have hout : ∀ y, y ∉ (Rect.unit (s := S1x4x16) o S1x1x16.size h).set →
      outs (Function.update B d w) y = outs B y :=
    fun y hy => by unfold outs; exact congrFun (Function.update_of_ne (mem_out o h d ho y hy) w B) _
  exact owns_store c E K m (Rect.unit (s := S1x4x16) o S1x1x16.size h) w hx hm (outs B)
    (outs (Function.update B d w)) hin hout k

/-! ## The body's pieces -/

variable (arg2 : Memref sig .tc .vmem S16x4096 .f32) (arg3 : Memref sig .tc .vmem S1x4x16 .i32)
  (arg4 : Memref sig .tc .vmem S4x16x128 .f32) (arg5 : Memref sig .tc .vmem S4x16x128 .i32)

/-- Both scratches' row `d` written with a draw's lanes. -/
theorem store2_run (o : Fin 3 → Nat) (h : ∀ a, o a + S1x16x128.size a ≤ S4x16x128.size a) (d : Fin 4)
    (ho : o = ![d.val, 0, 0]) (b : Best F) (A : Fin 4 → FVec F S1x16x128 .f32) (N : Fin 4 → IVec S1x16x128 32)
    (k : Run F PUnit) :
    iprop(owns (c : Thread nD τ) arg4 fullShare (rows A) ∗ owns (c : Thread nD τ) arg5 fullShare (rows N))
      ⊢ iprop((owns (c : Thread nD τ) arg4 fullShare
              (rows (Function.update A d (shapeCast S1x16x128 b.1 shapeCasts_S16x128_S1x16x128)))
            ∗ owns (c : Thread nD τ) arg5 fullShare
              (rows (Function.update N d (shapeCast S1x16x128 b.2 shapeCasts_S16x128_S1x16x128)))
          -∗ wp frame (wpE (defs₀ (F := F)) 𝒱₀ c none) E k K)
        -∗ wp frame (wpE (defs₀ (F := F)) 𝒱₀ c none) E (store2 o h arg4 arg5 b >>= fun _ => k) K) := by
  unfold store2 loadV loadK
  simp only [Prog.lift, Prog.bind_op, Prog.bind_ret]
  iintro ⟨H4, H5⟩ Hk
  iapply (rows_load c E K arg4 o h _ d ho A _) $$ H4
  iintro H4
  iapply (rows_store c E K arg4 o h d ho A _ _ _ _) $$ H4
  iintro H4
  iapply (rows_load c E K arg5 o h _ d ho N _) $$ H5
  iintro H5
  iapply (rows_store c E K arg5 o h d ho N _ _ _ _) $$ H5
  iintro H5
  iapply Hk
  isplitl [H4]; · iexact H4
  iexact H5

/-- One draw written out. -/
theorem flush1_run (o : Fin 3 → Nat) (h : ∀ a, o a + S1x16x128.size a ≤ S4x16x128.size a)
    (o' : Fin 3 → Nat) (h' : ∀ a, o' a + S1x1x16.size a ≤ S1x4x16.size a) (d : Fin 4)
    (ho : o = ![d.val, 0, 0]) (ho' : o' = ![0, d.val, 0]) (A : Fin 4 → FVec F S1x16x128 .f32)
    (N : Fin 4 → IVec S1x16x128 32) (B : Fin 4 → IVec S1x1x16 32) (k : Run F PUnit) :
    iprop(owns (c : Thread nD τ) arg4 fullShare (rows A) ∗ owns (c : Thread nD τ) arg5 fullShare (rows N)
        ∗ owns (c : Thread nD τ) arg3 fullShare (outs B))
      ⊢ iprop((owns (c : Thread nD τ) arg4 fullShare (rows A) ∗ owns (c : Thread nD τ) arg5 fullShare (rows N)
            ∗ owns (c : Thread nD τ) arg3 fullShare (outs (Function.update B d (drawn (A d) (N d))))
          -∗ wp frame (wpE (defs₀ (F := F)) 𝒱₀ c none) E k K)
        -∗ wp frame (wpE (defs₀ (F := F)) 𝒱₀ c none) E (flush1 o h o' h' arg3 arg4 arg5 >>= fun _ => k) K) := by
  unfold flush1 loadV loadK
  simp only [Prog.lift, Prog.bind_op, Prog.bind_ret]
  iintro ⟨H4, H5, H3⟩ Hk
  iapply (rows_load c E K arg4 o h _ d ho A _) $$ H4
  iintro H4
  iapply (rows_load c E K arg5 o h _ d ho N _) $$ H5
  iintro H5
  iapply (owns_load c E K arg3 _ _ (outs B) _) $$ H3
  iintro H3
  iapply (outs_store c E K arg3 o' h' d ho' B _ _ _ _) $$ H3
  iintro H3
  iapply Hk
  isplitl [H4]; · iexact H4
  isplitl [H5]; · iexact H5
  iexact H3

/-- What both scratches hold before the first block. -/
def start : (Fin 4 → FVec F S1x16x128 .f32) × (Fin 4 → IVec S1x16x128 32) :=
  (fun _ _ => Scalar.ofBits .f32 0xFF800000#32, fun _ _ => 0#32)

/-- A store of a whole scratch. -/
theorem whole_store {e : EltTy} (m : Memref sig .tc .vmem S4x16x128 e) (A B : Fin 4 → S1x16x128.Idx → Elt F e)
    (w : S4x16x128.Idx → Elt F e) (hw : w = rows B) (hx) (hm) (k : PUnit → Run F PUnit) :
    owns (c : Thread nD τ) m fullShare (rows A)
      ⊢ iprop((owns (c : Thread nD τ) m fullShare (rows B) -∗ wp frame (wpE (defs₀ (F := F)) 𝒱₀ c none) E (k ⟨⟩) K)
        -∗ wp frame (wpE (defs₀ (F := F)) 𝒱₀ c none) E
          (.op (.store m (Rect.unit (s := S4x16x128) ![0, 0, 0] S4x16x128.size inb_S4x16x128_S4x16x128_0_0_0)
            w Finset.univ hx hm) k) K) := by
  have he : ∀ x : S4x16x128.Idx, (Rect.unit (s := S4x16x128) ![0, 0, 0] S4x16x128.size
      inb_S4x16x128_S4x16x128_0_0_0).emb x = x := fun x => by
    funext a; fin_cases a
    · exact Fin.ext (by change 0 + 1 * (x 0).val = (x 0).val; omega)
    · exact Fin.ext (by change 0 + 1 * (x 1).val = (x 1).val; omega)
    · exact Fin.ext (by change 0 + 1 * (x 2).val = (x 2).val; omega)
  have hin : ∀ x, rows B ((Rect.unit (s := S4x16x128) ![0, 0, 0] S4x16x128.size
      inb_S4x16x128_S4x16x128_0_0_0).emb x) = w x := fun x => by rw [he x, hw]
  have hout : ∀ y, y ∉ (Rect.unit (s := S4x16x128) ![0, 0, 0] S4x16x128.size
      inb_S4x16x128_S4x16x128_0_0_0).set → rows B y = rows A y := fun y hy => by
    refine absurd ?_ hy
    rw [← Rect.map_emb_univ]
    exact Finset.mem_map.mpr ⟨y, Finset.mem_univ _, he y⟩
  exact owns_store c E K m (Rect.unit (s := S4x16x128) ![0, 0, 0] S4x16x128.size inb_S4x16x128_S4x16x128_0_0_0)
    w hx hm (rows A) (rows B) hin hout k

/-- Both scratches set before the first block. -/
theorem init_run (A : Fin 4 → FVec F S1x16x128 .f32) (N : Fin 4 → IVec S1x16x128 32) (k : Run F PUnit) :
    iprop(owns (c : Thread nD τ) arg4 fullShare (rows A) ∗ owns (c : Thread nD τ) arg5 fullShare (rows N))
      ⊢ iprop((owns (c : Thread nD τ) arg4 fullShare (rows (start (F := F)).1)
            ∗ owns (c : Thread nD τ) arg5 fullShare (rows (start (F := F)).2)
          -∗ wp frame (wpE (defs₀ (F := F)) 𝒱₀ c none) E k K)
        -∗ wp frame (wpE (defs₀ (F := F)) 𝒱₀ c none) E (init arg4 arg5 >>= fun _ => k) K) := by
  unfold init
  simp only [Prog.lift, Prog.bind_op, Prog.bind_ret]
  iintro ⟨H4, H5⟩ Hk
  iapply (owns_load c E K arg4 _ _ (rows A) _) $$ H4
  iintro H4
  iapply (whole_store c E K arg4 A (start (F := F)).1 _ rfl _ _ _) $$ H4
  iintro H4
  iapply (owns_load c E K arg5 _ _ (rows N) _) $$ H5
  iintro H5
  iapply (whole_store c E K arg5 N (start (F := F)).2 _ rfl _ _ _) $$ H5
  iintro H5
  iapply Hk
  isplitl [H4]; · iexact H4
  iexact H5

end Cert.KernelIdeal.Block

end
-- ==== Proof.Triple.lean ====
/- What the kernel's body does to the buffers it holds, at any grid point. -/
module

public import proofs.«01_k».proof.Proof.BodyEq
public import proofs.«01_k».proof.Proof.Rows

@[expose] public section

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The four draws' lanes as the scratches hold them: the scores, and the columns. -/
abbrev Lanes (F : FTy → Type) [FloatOps F] : Type :=
  (Fin 4 → FVec F S1x16x128 .f32) × (Fin 4 → IVec S1x16x128 32)

/-- The lanes after a block: `i` is the half of the rows, `j` the block and `X` its entries. -/
def next (i j : BitVec 32) (X : FVec F S16x4096 .f32) (s : Lanes F) : Lanes F :=
  (fun d => shapeCast S1x16x128 (lanes i j X d (s.1 d) (s.2 d)).1 shapeCasts_S16x128_S1x16x128,
   fun d => shapeCast S1x16x128 (lanes i j X d (s.1 d) (s.2 d)).2 shapeCasts_S16x128_S1x16x128)

/-- The point is at the first block. -/
abbrev atFirst (i : grid0.Coords) : Prop :=
  Scalar.cmpi .ne (Scalar.extui (Scalar.cmpi .eq (BitVec.ofNat 32 (i 1).val) 0#32)) 0#32 = 1#1

/-- The lanes after the body at a point that finds the lanes `s` and the block `X`. -/
def pass (i : grid0.Coords) (X : FVec F S16x4096 .f32) (s : Lanes F) : Lanes F :=
  next (BitVec.ofNat 32 (i 0).val) (BitVec.ofNat 32 (i 1).val) X (if atFirst i then start else s)

/-- The columns drawn off the lanes. -/
def draws (s : Lanes F) : Fin 4 → IVec S1x1x16 32 := fun d => drawn (s.1 d) (s.2 d)

variable (c : Dev nD) (E : Set ℕ) (K : PUnit.{1} → Asn F)
variable (arg2 : Memref sig .tc .vmem S16x4096 .f32) (arg3 : Memref sig .tc .vmem S1x4x16 .i32)
  (arg4 : Memref sig .tc .vmem S4x16x128 .f32) (arg5 : Memref sig .tc .vmem S4x16x128 .i32)

/-- The load of the whole block. -/
theorem block_load (X : FVec F S16x4096 .f32) (hl) (k : (S16x4096.Idx → Elt F .f32) → Run F PUnit) :
    owns (c : Thread nD τ) arg2 fullShare X
      ⊢ iprop((owns (c : Thread nD τ) arg2 fullShare X -∗ wp frame (wpE (defs₀ (F := F)) 𝒱₀ c none) E (k X) K)
        -∗ wp frame (wpE (defs₀ (F := F)) 𝒱₀ c none) E
          (.op (.load arg2 (Rect.unit (s := S16x4096) ![0, 0] S16x4096.size inb_S16x4096_S16x4096_0_0).toLoadRect hl) k) K) := by
  have hr := owns_load c E K arg2 (Rect.unit (s := S16x4096) ![0, 0] S16x4096.size inb_S16x4096_S16x4096_0_0).toLoadRect
    hl X k
  rwa [show (fun x => X ((Rect.unit (s := S16x4096) ![0, 0] S16x4096.size inb_S16x4096_S16x4096_0_0).toLoadRect.idx x)) = X
    from funext fun x => congrArg X (funext fun a => by
      fin_cases a
      · exact Fin.ext (by change 0 + 1 * (x 0).val = (x 0).val; omega)
      · exact Fin.ext (by change 0 + 1 * (x 1).val = (x 1).val; omega))] at hr

/-- The body after the scratches are set: the block read, the lanes stepped. -/
theorem step_run (i j : BitVec 32) (X : FVec F S16x4096 .f32) (s : Lanes F) (k : Run F PUnit) :
    iprop(owns (c : Thread nD τ) arg2 fullShare X ∗ owns (c : Thread nD τ) arg4 fullShare (rows s.1)
        ∗ owns (c : Thread nD τ) arg5 fullShare (rows s.2))
      ⊢ iprop((owns (c : Thread nD τ) arg2 fullShare X
            ∗ owns (c : Thread nD τ) arg4 fullShare (rows (next i j X s).1)
            ∗ owns (c : Thread nD τ) arg5 fullShare (rows (next i j X s).2)
          -∗ wp frame (wpE (defs₀ (F := F)) 𝒱₀ c none) E k K)
        -∗ wp frame (wpE (defs₀ (F := F)) 𝒱₀ c none) E (do
            let x : Vec F S16x4096 .f32 ← Prog.lift (.load arg2 (Rect.unit (s := S16x4096) ![0, 0] S16x4096.size inb_S16x4096_S16x4096_0_0).toLoadRect (View.loadsAt_vmem h_S16x4096))
            let a0 ← loadV ![0, 0, 0] inb_S4x16x128_S1x16x128_0_0_0 arg4
            let a1 ← loadV ![1, 0, 0] inb_S4x16x128_S1x16x128_1_0_0 arg4
            let a2 ← loadV ![2, 0, 0] inb_S4x16x128_S1x16x128_2_0_0 arg4
            let a3 ← loadV ![3, 0, 0] inb_S4x16x128_S1x16x128_3_0_0 arg4
            let k0 ← loadK ![0, 0, 0] inb_S4x16x128_S1x16x128_0_0_0 arg5
            let k1 ← loadK ![1, 0, 0] inb_S4x16x128_S1x16x128_1_0_0 arg5
            let k2 ← loadK ![2, 0, 0] inb_S4x16x128_S1x16x128_2_0_0 arg5
            let k3 ← loadK ![3, 0, 0] inb_S4x16x128_S1x16x128_3_0_0 arg5
            store2 ![0, 0, 0] inb_S4x16x128_S1x16x128_0_0_0 arg4 arg5 (lanes i j x 0 a0 k0)
            store2 ![1, 0, 0] inb_S4x16x128_S1x16x128_1_0_0 arg4 arg5 (lanes i j x 1 a1 k1)
            store2 ![2, 0, 0] inb_S4x16x128_S1x16x128_2_0_0 arg4 arg5 (lanes i j x 2 a2 k2)
            store2 ![3, 0, 0] inb_S4x16x128_S1x16x128_3_0_0 arg4 arg5 (lanes i j x 3 a3 k3)
            k) K) := by
  unfold loadV loadK
  simp only [Prog.lift, Prog.bind_op, Prog.bind_ret]
  iintro ⟨H2, H4, H5⟩ Hk
  iapply (block_load c E K arg2 X _ _) $$ H2
  iintro H2
  iapply (rows_load c E K arg4 _ _ _ 0 rfl s.1 _) $$ H4
  iintro H4
  iapply (rows_load c E K arg4 _ _ _ 1 rfl s.1 _) $$ H4
  iintro H4
  iapply (rows_load c E K arg4 _ _ _ 2 rfl s.1 _) $$ H4
  iintro H4
  iapply (rows_load c E K arg4 _ _ _ 3 rfl s.1 _) $$ H4
  iintro H4
  iapply (rows_load c E K arg5 _ _ _ 0 rfl s.2 _) $$ H5
  iintro H5
  iapply (rows_load c E K arg5 _ _ _ 1 rfl s.2 _) $$ H5
  iintro H5
  iapply (rows_load c E K arg5 _ _ _ 2 rfl s.2 _) $$ H5
  iintro H5
  iapply (rows_load c E K arg5 _ _ _ 3 rfl s.2 _) $$ H5
  iintro H5
  iapply (store2_run c E K arg4 arg5 _ _ 0 rfl _ s.1 s.2 _) $$ [H4 H5]
  · isplitl [H4]; · iexact H4
    iexact H5
  iintro H
  iapply (store2_run c E K arg4 arg5 _ _ 1 rfl _ _ _ _) $$ H
  iintro H
  iapply (store2_run c E K arg4 arg5 _ _ 2 rfl _ _ _ _) $$ H
  iintro H
  iapply (store2_run c E K arg4 arg5 _ _ 3 rfl _ _ _ _) $$ H
  iintro H
  rw [← update4 s.1 (next i j X s).1, ← update4 s.2 (next i j X s).2]
  iapply Hk
  isplitl [H2]; · iexact H2
  iexact H

/-- The four draws written out. -/
theorem flush_run (s : Lanes F) (B : Fin 4 → IVec S1x1x16 32) (k : Run F PUnit) :
    iprop(owns (c : Thread nD τ) arg4 fullShare (rows s.1) ∗ owns (c : Thread nD τ) arg5 fullShare (rows s.2)
        ∗ owns (c : Thread nD τ) arg3 fullShare (outs B))
      ⊢ iprop((owns (c : Thread nD τ) arg4 fullShare (rows s.1) ∗ owns (c : Thread nD τ) arg5 fullShare (rows s.2)
            ∗ owns (c : Thread nD τ) arg3 fullShare (outs (draws s))
          -∗ wp frame (wpE (defs₀ (F := F)) 𝒱₀ c none) E k K)
        -∗ wp frame (wpE (defs₀ (F := F)) 𝒱₀ c none) E (do
            flush1 ![0, 0, 0] inb_S4x16x128_S1x16x128_0_0_0 ![0, 0, 0] inb_S1x4x16_S1x1x16_0_0_0 arg3 arg4 arg5
            flush1 ![1, 0, 0] inb_S4x16x128_S1x16x128_1_0_0 ![0, 1, 0] inb_S1x4x16_S1x1x16_0_1_0 arg3 arg4 arg5
            flush1 ![2, 0, 0] inb_S4x16x128_S1x16x128_2_0_0 ![0, 2, 0] inb_S1x4x16_S1x1x16_0_2_0 arg3 arg4 arg5
            flush1 ![3, 0, 0] inb_S4x16x128_S1x16x128_3_0_0 ![0, 3, 0] inb_S1x4x16_S1x1x16_0_3_0 arg3 arg4 arg5
            k) K) := by
  iintro H Hk
  iapply (flush1_run c E K arg3 arg4 arg5 _ _ _ _ 0 rfl rfl s.1 s.2 B _) $$ H
  iintro H
  iapply (flush1_run c E K arg3 arg4 arg5 _ _ _ _ 1 rfl rfl s.1 s.2 _ _) $$ H
  iintro H
  iapply (flush1_run c E K arg3 arg4 arg5 _ _ _ _ 2 rfl rfl s.1 s.2 _ _) $$ H
  iintro H
  iapply (flush1_run c E K arg3 arg4 arg5 _ _ _ _ 3 rfl rfl s.1 s.2 _ _) $$ H
  iintro H
  rw [← update4 B (draws s)]
  iapply Hk
  iexact H

/-- The body at a grid point: the lanes are stepped by the block, and after the last block the draws are written. -/
theorem body_run (i : grid0.Coords) (X : FVec F S16x4096 .f32) (s : Lanes F) (B : Fin 4 → IVec S1x1x16 32) :
    iprop(owns (c : Thread nD τ) arg2 fullShare X ∗ owns (c : Thread nD τ) arg3 fullShare (outs B)
        ∗ owns (c : Thread nD τ) arg4 fullShare (rows s.1) ∗ owns (c : Thread nD τ) arg5 fullShare (rows s.2))
      ⊢ iprop((owns (c : Thread nD τ) arg2 fullShare X
            ∗ owns (c : Thread nD τ) arg3 fullShare (outs (if k0_cond2 i = 1#1 then draws (pass i X s) else B))
            ∗ owns (c : Thread nD τ) arg4 fullShare (rows (pass i X s).1)
            ∗ owns (c : Thread nD τ) arg5 fullShare (rows (pass i X s).2) -∗ K ⟨⟩)
        -∗ wp frame (wpE (defs₀ (F := F)) 𝒱₀ c none) E (body i arg2 arg3 arg4 arg5) K) := by
  unfold body
  have hlast : ∀ t : Lanes F, t = pass i X s →
      iprop(owns (c : Thread nD τ) arg2 fullShare X ∗ owns (c : Thread nD τ) arg3 fullShare (outs B)
        ∗ owns (c : Thread nD τ) arg4 fullShare (rows t.1) ∗ owns (c : Thread nD τ) arg5 fullShare (rows t.2))
      ⊢ iprop((owns (c : Thread nD τ) arg2 fullShare X
            ∗ owns (c : Thread nD τ) arg3 fullShare (outs (if k0_cond2 i = 1#1 then draws (pass i X s) else B))
            ∗ owns (c : Thread nD τ) arg4 fullShare (rows (pass i X s).1)
            ∗ owns (c : Thread nD τ) arg5 fullShare (rows (pass i X s).2) -∗ K ⟨⟩)
        -∗ wp frame (wpE (defs₀ (F := F)) 𝒱₀ c none) E (do
          if _h : k0_cond2 i = 1#1 then do
            flush1 ![0, 0, 0] inb_S4x16x128_S1x16x128_0_0_0 ![0, 0, 0] inb_S1x4x16_S1x1x16_0_0_0 arg3 arg4 arg5
            flush1 ![1, 0, 0] inb_S4x16x128_S1x16x128_1_0_0 ![0, 1, 0] inb_S1x4x16_S1x1x16_0_1_0 arg3 arg4 arg5
            flush1 ![2, 0, 0] inb_S4x16x128_S1x16x128_2_0_0 ![0, 2, 0] inb_S1x4x16_S1x1x16_0_2_0 arg3 arg4 arg5
            flush1 ![3, 0, 0] inb_S4x16x128_S1x16x128_3_0_0 ![0, 3, 0] inb_S1x4x16_S1x1x16_0_3_0 arg3 arg4 arg5
          else pure ⟨⟩
          pure ⟨⟩ : Run F PUnit) K) := by
    rintro t rfl
    by_cases hc : k0_cond2 i = 1#1
    · simp only [dif_pos hc, if_pos hc, bind_assoc]
      iintro ⟨H2, H3, H4, H5⟩ Hk
      iapply (flush_run c E K arg3 arg4 arg5 (pass i X s) B (pure ⟨⟩)) $$ [H3 H4 H5]
      · isplitl [H4]; · iexact H4
        isplitl [H5]; · iexact H5
        iexact H3
      iintro ⟨H4, H5, H3⟩
      sl_step
      iapply Hk
      isplitl [H2]; · iexact H2
      isplitl [H3]; · iexact H3
      isplitl [H4]; · iexact H4
      iexact H5
    · simp only [dif_neg hc, if_neg hc, pure_bind]
      iintro ⟨H2, H3, H4, H5⟩ Hk
      sl_step
      iapply Hk
      isplitl [H2]; · iexact H2
      isplitl [H3]; · iexact H3
      isplitl [H4]; · iexact H4
      iexact H5
  have hmid : ∀ t : Lanes F, t = (if atFirst i then start else s) →
      iprop(owns (c : Thread nD τ) arg2 fullShare X ∗ owns (c : Thread nD τ) arg3 fullShare (outs B)
        ∗ owns (c : Thread nD τ) arg4 fullShare (rows t.1) ∗ owns (c : Thread nD τ) arg5 fullShare (rows t.2))
      ⊢ iprop((owns (c : Thread nD τ) arg2 fullShare X
            ∗ owns (c : Thread nD τ) arg3 fullShare (outs (if k0_cond2 i = 1#1 then draws (pass i X s) else B))
            ∗ owns (c : Thread nD τ) arg4 fullShare (rows (pass i X s).1)
            ∗ owns (c : Thread nD τ) arg5 fullShare (rows (pass i X s).2) -∗ K ⟨⟩)
        -∗ wp frame (wpE (defs₀ (F := F)) 𝒱₀ c none) E _ K) := fun t ht => by
    iintro ⟨H2, H3, H4, H5⟩ Hk
    iapply (step_run c E K arg2 arg4 arg5 (BitVec.ofNat 32 (i 0).val) (BitVec.ofNat 32 (i 1).val) X t _) $$ [H2 H4 H5]
    · isplitl [H2]; · iexact H2
      isplitl [H4]; · iexact H4
      iexact H5
    iintro ⟨H2, H4, H5⟩
    iapply (hlast (next (BitVec.ofNat 32 (i 0).val) (BitVec.ofNat 32 (i 1).val) X t) (by rw [ht]; rfl)) $$ [H2 H3 H4 H5]
    · isplitl [H2]; · iexact H2
      isplitl [H3]; · iexact H3
      isplitl [H4]; · iexact H4
      iexact H5
    iexact Hk
  by_cases hf : atFirst i
  · rw [dif_pos hf]
    iintro ⟨H2, H3, H4, H5⟩ Hk
    iapply (init_run c E K arg4 arg5 s.1 s.2 _) $$ [H4 H5]
    · isplitl [H4]; · iexact H4
      iexact H5
    iintro ⟨H4, H5⟩
    iapply (hmid start (if_pos hf).symm) $$ [H2 H3 H4 H5]
    · isplitl [H2]; · iexact H2
      isplitl [H3]; · iexact H3
      isplitl [H4]; · iexact H4
      iexact H5
    iexact Hk
  · rw [dif_neg hf]
    exact hmid s (if_neg hf).symm

end Cert.KernelIdeal.Block

end
-- ==== Proof.Mask.lean ====
/- The block a grid point reads, entry by entry: the array's entry, or minus infinity past the last column. -/
module

public import proofs.«01_k».proof.Proof.Triple

@[expose] public section

noncomputable section

namespace Cert.KernelIdeal.Block

open Cert.KernelIdeal Cert.KernelIdeal.Gen
open Idealize.ShloMosaic Idealize.ShloMosaic.TcCoe
open Idealize.SL.Sem
open Idealize.ShloMosaic.Pipeline (Window)

variable {F : FTy → Type} [FloatOps F]

/-- The columns of block `j`. -/
theorem cols_at (j : Nat) (p : S16x4096.Idx) : cols (BitVec.ofNat 32 j) p = BitVec.ofNat 32 (4096 * j + (p 1).val) := by
  unfold cols addi broadcast iota Scalar.muli
  simp only [List.foldl_cons, List.foldl_nil, Nat.zero_mul, Nat.zero_add]
  change BitVec.ofNat 32 _ + BitVec.ofNat 32 j * BitVec.ofNat 32 4096 = _
  rw [← BitVec.ofNat_mul, ← BitVec.ofNat_add, Nat.mul_comm j 4096, Nat.add_comm]

/-- A number below 2 to the 31 read as a signed word. -/
theorem toInt_small (n : Nat) (h : n < 2 ^ 31) : (BitVec.ofNat 32 n).toInt = n := by
  rw [BitVec.toInt_ofNat', Int.bmod_eq_of_le]
  · omega
  · omega

/-- The masked block, entry by entry. -/
theorem masked_at (j : Nat) (hj : j < 245) (X : FVec F S16x4096 .f32) (p : S16x4096.Idx) :
    masked (BitVec.ofNat 32 j) X p
      = if 4096 * j + (p 1).val < 1000000 then X p else Scalar.ofBits .f32 0xFF800000#32 := by
  have hp : (p 1).val < 4096 := (p 1).isLt
  change (if IntOp.cmpi .slt (cols (BitVec.ofNat 32 j) p) 1000000#32 = 1 then X p else _) = _
  rw [cols_at, IntOp.cmpi]
  simp only [BitVec.slt, toInt_small _ (show 4096 * j + (p 1).val < 2 ^ 31 by omega),
    show (1000000#32 : BitVec 32).toInt = 1000000 by decide]
  by_cases h : 4096 * j + (p 1).val < 1000000
  · rw [if_pos h, if_pos (by rw [decide_eq_true (by omega)]; rfl)]
  · rw [if_neg h, if_neg (by rw [decide_eq_false (by omega)]; decide)]
    rfl

/-- The grid's coordinates. -/
theorem coord_lt (i : grid0.Coords) : (i 0).val < 2 ∧ (i 1).val < 245 := ⟨(i 0).isLt, (i 1).isLt⟩

/-- Every entry of a block that lies in the array is fetched. -/
theorem moved_of_lt (i : grid0.Coords) (p : S16x4096.Idx) (h : 4096 * (i 1).val + (p 1).val < 1000000) :
    win0_0.moved i p = true := by
  have hi := coord_lt i
  have h0 : (p 0).val < 16 := (p 0).isLt
  have h1 : (p 1).val < 4096 := (p 1).isLt
  have e0 : cc0_transform_0 i 0 = (i 0).val := by
    change (BitVec.ofNat 32 (i 0).val).toNat = _; rw [BitVec.toNat_ofNat]; omega
  have e1 : cc0_transform_0 i 1 = (i 1).val := by
    change (BitVec.ofNat 32 (i 1).val).toNat = _; rw [BitVec.toNat_ofNat]; omega
  rw [Window.moved_iff]
  intro a
  fin_cases a
  · change (p 0).val < (Pipeline.Clip.of (cc0_transform_0 i 0) 16 32).extent 16
    rw [e0]; unfold Pipeline.Clip.of
    split <;> simp only [Pipeline.Clip.extent] <;> omega
  · change (p 1).val < (Pipeline.Clip.of (cc0_transform_0 i 1) 4096 1000000).extent 4096
    rw [e1]; unfold Pipeline.Clip.of
    split <;> simp only [Pipeline.Clip.extent] <;> omega

/-- What a block's staging buffer holds past the array does not matter. -/
theorem masked_fill (i : grid0.Coords) (d d' : S16x4096.Idx → Elt F .f32) (g : (win0_0.xblock i).Idx → Elt F .f32) :
    masked (F := F) (BitVec.ofNat 32 (i 1).val) (win0_0.fill i d g)
      = masked (F := F) (BitVec.ofNat 32 (i 1).val) (win0_0.fill i d' g) := by
  funext p
  rw [masked_at _ (coord_lt i).2, masked_at _ (coord_lt i).2]
  by_cases h : 4096 * (i 1).val + (p 1).val < 1000000
  · rw [if_pos h, if_pos h]
    unfold Window.fill
    rw [dif_pos (moved_of_lt i p h), dif_pos (moved_of_lt i p h)]
  · rw [if_neg h, if_neg h]

/-- So the body's pass over the lanes does not depend on it. -/
theorem pass_fill (i : grid0.Coords) (d d' : S16x4096.Idx → Elt F .f32) (g : (win0_0.xblock i).Idx → Elt F .f32)
    (s : Lanes F) : pass i (win0_0.fill i d g) s = pass i (win0_0.fill i d' g) s := by
  unfold pass next lanes
  rw [masked_fill i d d' g]

end Cert.KernelIdeal.Block

end
-- ==== Proof.Run.lean ====
/- The kernel's whole run: the lanes followed through the grid, and what its arrays hold at the end. -/
module

public import proofs.«01_k».proof.Proof.Mask

@[expose] public section

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-! ## The lanes along the grid -/

/-- The block of point `t`, with zeros past the array. -/
def blockAt (c : Dev nD) (t : Fin cfg0.N) : FVec F S16x4096 .f32 :=
  win0_0.fill (grid0.coords t) (fun _ => Scalar.ofBits .f32 0x00000000#32 : S16x4096.Idx → Elt F .f32) (iblk m c 0 t)

/-- The lanes after the first `n` points. -/
def lanesAt (c : Dev nD) : Nat → Lanes F
  | 0 => start
  | n + 1 => if h : n < cfg0.N then pass (grid0.coords ⟨n, h⟩) (blockAt m c ⟨n, h⟩) (lanesAt c n) else lanesAt c n

/-- The lanes after point `t`. -/
theorem lanesAt_succ (c : Dev nD) (t : Fin cfg0.N) :
    lanesAt m c (t.val + 1) = pass (grid0.coords t) (blockAt m c t) (lanesAt m c t.val) := dif_pos t.isLt

/-- The half and the block of point `t`. -/
theorem coords_of (t : Fin grid0.N) : (grid0.coords t 0).val = t.val / 245 ∧ (grid0.coords t 1).val = t.val % 245 := by
  have ht : t.val < 490 := t.isLt
  refine ⟨?_, ?_⟩
  · rw [Pipeline.Grid.coords_val t 0 (S := 245) (B := 2) (by decide) rfl]; omega
  · rw [Pipeline.Grid.coords_val t 1 (S := 1) (B := 245) (by decide) rfl]; omega

/-- The point is at the first block when its block is number zero. -/
theorem atFirst_iff (i : grid0.Coords) : atFirst i ↔ (i 1).val = 0 := by
  have h : ∀ n : Fin 245, (Scalar.cmpi .ne (Scalar.extui (Scalar.cmpi .eq (BitVec.ofNat 32 n.val) 0#32)) 0#32 = 1#1) ↔ n.val = 0 := by
    decide +kernel
  exact h ⟨(i 1).val, (coord_lt i).2⟩

/-- The draws are written at the points of block 244. -/
theorem cond2_iff (i : grid0.Coords) : k0_cond2 i = 1#1 ↔ (i 1).val = 244 := by
  have h : ∀ n : Fin 245, (Scalar.cmpi .ne (Scalar.extui (Scalar.cmpi .eq (BitVec.ofNat 32 n.val) 244#32)) 0#32 = 1#1) ↔ n.val = 244 := by
    decide +kernel
  exact h ⟨(i 1).val, (coord_lt i).2⟩

/-- At a first block the lanes found do not matter. -/
theorem pass_first (i : grid0.Coords) (h : atFirst i) (X : FVec F S16x4096 .f32) (s s' : Lanes F) :
    pass i X s = pass i X s' := by unfold pass; rw [if_pos h, if_pos h]

/-! ## The proof data -/

/-- Between points: both scratches at the lanes so far (before the first point, at anything), and the generator's
    register at something. -/
def inv (c : Dev nD) (n : Nat) (_ : n ≤ cfg0.N) : Asn F :=
  iprop(∃ s : Lanes F, ⌜n ≠ 0 → s = lanesAt m c n⌝
    ∗ owns (c : Thread nD τ) (Memref.whole cc0_scratch0) fullShare (rows s.1)
    ∗ owns (c : Thread nD τ) (Memref.whole cc0_scratch1) fullShare (rows s.2)
    ∗ ∃ r, prngReg c r)

/-- The proof data: the input's buffer holds its block, the result's the draws off the lanes. -/
def dats (_ : Fin 1) (c : Dev nD) : Dat τ (Elt F) Unit ℕ (UR sig nD τ) ℕ cfg0 c where
  A w := V m c (Pipeline.arrRef spec0 w)
  after w t := match w with
    | ⟨0, _⟩ => blockAt m c t
    | ⟨1, _⟩ => outs (draws (lanesAt m c (t.val + 1)))
  Φ t := inv m c t.val (Nat.le_of_lt_succ t.isLt)
  q _ := fullShare
  owed _ := 0

/-- The input's buffer as the body finds it: its block, and anything past the array. -/
theorem before_0 (c : Dev nD) (t : Fin cfg0.N) (d) :
    (dats m 0 c).before (0 : Fin 2) t d = win0_0.fill (grid0.coords t) d (iblk m c 0 t) := by
  unfold Dat.before; rw [if_pos (fetch0_0 t)]; rfl

/-- The body's obligation at every point. -/
theorem body_obligation (c : Dev nD) : BodyObligationLoose (dats m 0 c) (defs₀ (F := F)) 𝒱₀ () Set.univ := fun t => by
  rw [bigSep_W0, bigSep_W0]
  simp only
  rw [show (dats m 0 c).Φ t.castSucc = inv m c t.val (Nat.le_of_lt t.isLt) from
      Pipeline.Dat.Φ_castSucc (inv m c) t,
    show (dats m 0 c).Φ t.succ = inv m c (t.val + 1) t.isLt from rfl,
    show (dats m 0 c).owesAt () t.succ = (dats m 0 c).owesAt () t.castSucc from rfl]
  have hco := coords_of t
  have hb : defs₀ (F := F) .tc cfg0.body (cfg0.bodyArgs t (cfg0.slots t))
      = body (grid0.coords t) (st0_0 t) (st0_1 t) (Memref.whole cc0_scratch0) (Memref.whole cc0_scratch1) :=
    (show _ = bodyAt0 t from rfl).trans (cc0_eq ..)
  rw [hb]
  unfold inv
  iintro ⟨⟨%s, %hs, H4, H5, Hr⟩, Ho, ⟨%d0, H0⟩, ⟨%d1, H1⟩⟩
  rw [before_0 m c t d0, ← outs_unouts ((dats m 0 c).before (1 : Fin 2) t d1)]
  have hnext : pass (grid0.coords t) (win0_0.fill (grid0.coords t) d0 (iblk m c 0 t)) s = lanesAt m c (t.val + 1) := by
    rw [lanesAt_succ, pass_fill _ d0 (fun _ => Scalar.ofBits .f32 0x00000000#32)]
    by_cases h0 : t.val = 0
    · exact pass_first _ ((atFirst_iff _).mpr (by rw [hco.2, h0])) _ _ _
    · rw [hs h0]; rfl
  iapply (body_run c Set.univ _ (st0_0 t) (st0_1 t) (Memref.whole cc0_scratch0) (Memref.whole cc0_scratch1)
    (grid0.coords t) (win0_0.fill (grid0.coords t) d0 (iblk m c 0 t)) s
    (unouts ((dats m 0 c).before (1 : Fin 2) t d1))) $$ [H0 H1 H4 H5]
  · isplitl [H0]; · iexact H0
    isplitl [H1]; · iexact H1
    isplitl [H4]; · iexact H4
    iexact H5
  rw [hnext]
  iintro ⟨H0, H1, H4, H5⟩
  isplitl [H4 H5 Hr]
  · iexists (lanesAt m c (t.val + 1))
    isplitr; · ipureintro; exact fun _ => rfl
    isplitl [H4]; · iexact H4
    isplitl [H5]; · iexact H5
    iexact Hr
  isplitl [Ho]; · iexact Ho
  isplitl [H0]
  · iexists d0
    change _ ⊢ owns (c : Thread nD τ) (st0_0 t) fullShare (win0_0.fill (grid0.coords t) d0 (win0_0.cut (grid0.coords t) (blockAt m c t)))
    rw [show win0_0.cut (grid0.coords t) (blockAt m c t) = iblk m c 0 t from win0_0.cut_fill _ _ _]
  · by_cases hc : k0_cond2 (grid0.coords t) = 1#1
    · rw [if_pos hc]
      have hi : cfg0.idle 1 (cfg0.grid.coords t) = false := by
        change (!(k0_cond2 (grid0.coords t) == 1#1)) = false
        rw [hc]; rfl
      rw [show idle0 1 (grid0.coords t) = false from hi]
      iexact H1
    · rw [if_neg hc, outs_unouts]
      have hi : cfg0.idle 1 (cfg0.grid.coords t) = true := by
        change (!(k0_cond2 (grid0.coords t) == 1#1)) = true
        rw [beq_false_of_ne hc]; rfl
      have hf : (cfg0.win 1).flush t = false := by
        rw [Bool.eq_false_iff]
        intro h
        exact hc ((cond2_iff _).mpr (by rw [hco.2]; exact (flush0_1 t).mp h))
      rw [show idle0 1 (grid0.coords t) = true from hi, show (win0 1).flush t = false from hf]
      iexists d1
      iexact H1

end Cert.KernelIdeal.Block

end
-- ==== Proof.Whole.lean ====
/- The run of the whole kernel: the region over the grid, then the two operations that lay the result out. -/
module

public import proofs.«01_k».proof.Proof.Run

@[expose] public section

noncomputable section

namespace Cert.KernelIdeal.Block

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- What the region hands the body is the invariant before the first point. -/
theorem inv_in (c : Dev nD) : Pipeline.ΦA spec0 c ⊢ (dats m 0 c).Φ 0 := by
  change Pipeline.ΦA spec0 c ⊢ inv m c 0 (Nat.zero_le _)
  unfold Pipeline.ΦA inv
  rw [scopedRest0_eq]
  iintro ⟨⟨⟨%f, H4⟩, ⟨%g, H5⟩⟩, Hr⟩
  iexists (unrows f, unrows g)
  isplitr; · ipureintro; exact fun h => absurd rfl h
  simp only [rows_unrows, owns_whole_eq]
  isplitl [H4]
  · iexists f; isplitr; · ipureintro; rfl
    iexact H4
  isplitl [H5]
  · iexists g; isplitr; · ipureintro; rfl
    iexact H5
  iexact Hr

/-- The invariant after the last point gives back what the region handed over. -/
theorem inv_out (c : Dev nD) : (dats m 0 c).Φ (Fin.last cfg0.N) ⊢ Pipeline.ΦA spec0 c := by
  change inv m c cfg0.N (le_refl _) ⊢ Pipeline.ΦA spec0 c
  unfold Pipeline.ΦA inv
  rw [scopedRest0_eq]
  simp only [owns_whole_eq]
  iintro ⟨%s, -, ⟨%f, -, H4⟩, ⟨%g, -, H5⟩, Hr⟩
  isplitl [H4 H5]
  · isplitl [H4]
    · iexists f; iexact H4
    · iexists g; iexact H5
  iexact Hr

set_option backward.isDefEq.respectTransparency.types false in
/-- The kernel runs: its arrays end as the grid's write-backs leave them, the other buffers as the two last operations
    do, and every semaphore reads zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track cfgs (dats m) 0 launch0 defs₀ 𝒱₀ m ρ main (body_obligation m)
    (fun c => (dats m 0 c).share_full fun _ => rfl) (fun _ _ => rfl) (V0 m) [hostOps1] sfx_sub sfx_fresh sfx_keeps
    (hmain m 𝒱₀) (fun _ _ => rfl) (inv_in m) (inv_out m) _ (fun _ h => h)

/-- The kernel runs, its argument ends unchanged, and every semaphore reads zero. -/
theorem frame_main : θ_run defs (onTc (τ := τ) (main (F := F))) ⟨m, fun _ => 0, ρ⟩ (fun r =>
    (∀ c : Dev nD, r.2.mem ((c.tc : Thread nD τ).loc main_arg0) = m ((c.tc : Thread nD τ).loc main_arg0))
      ∧ r.2.sem = fun _ => 0) :=
  (θ_run defs _ _).mono (fun _ h => ⟨fun c => ((h.1 c).1 0).trans (((dats m 0 c).arrAt_in 0 rfl _).trans
    (V_main_arg0 m c)), h.2⟩) (run_main m ρ)

end Cert.KernelIdeal.Block

end
-- ==== Proof.Printed.lean ====
/- The printed program and its idealization are one text, so that the run proved of the one is the run of the other. -/
module

public import proofs.«01_k».proof.Defs
public import proofs.«01_k».proof.Proof.Whole
public import proofs.«01_k».proof.Proof.Gen.Kernel

@[expose] public section

noncomputable section

namespace Cert.Printed

open Idealize.ShloMosaic Idealize.SL.Sem

/-- The idealized kernel runs, keeps its argument and ends with every semaphore at zero. -/
theorem ideal_frame : quiescent_KernelIdeal := fun m g _ => Cert.KernelIdeal.Block.frame_main m g

/-- The two body tables are one. -/
theorem bodies_eq : @Cert.Kernel.defs₀ Bits _ _ = @Cert.KernelIdeal.defs₀ Bits _ _ := by
  unfold Cert.Kernel.defs₀ Cert.KernelIdeal.defs₀
  refine congrArg Defs.onTc ?_
  funext l a
  match l, a with
  | 0, (t, s) => rfl

/-- The two tables with the pipelines in are one. -/
theorem defs_eq : @Cert.Kernel.defs Bits _ _ = @Cert.KernelIdeal.defs Bits _ _ :=
  congrArg (Pipeline.defs Cert.KernelIdeal.pcfgs) bodies_eq

/-- The two main functions are one. -/
theorem main_eq : Cert.Kernel.main (F := Bits) = Cert.KernelIdeal.main (F := Bits) := rfl

/-- The kernel as printed runs, keeps its argument and ends with every semaphore at zero. -/
theorem printed_frame : quiescent_Kernel := fun m g _ => by
  rw [defs_eq, main_eq]
  exact Cert.KernelIdeal.Block.frame_main (F := Bits) m g

end Cert.Printed

end
-- ==== Proof.Spec.lean ====
/- The numbers both programs compute: the cipher on single words, the Gumbel noise of a word, and the first place of a
   row's maximum. -/
module

public import proofs.«01_k».proof.Proof.Gen.KernelIdeal
public import Idealize.ShloMosaic.PureOps.Ideal
public import Idealize.ShloMosaic.PureOps.Ideal.Laws
public import Mathlib.Tactic.NormNum
public import Mathlib.Tactic.Ring

@[expose] public section

noncomputable section

namespace Cert.Gumbel

open Idealize.ShloMosaic

/-- A word. -/
abbrev U : Type := BitVec 32

/-- One round of the cipher on a pair of words. -/
def mix (l r : U) (p : U × U) : U × U := (p.1 + p.2, (p.2 <<< l ||| p.2 >>> r) ^^^ (p.1 + p.2))

/-- One key injection on a pair of words. -/
def inject (a b n : U) (p : U × U) : U × U := (p.1 + a, p.2 + b + n)

/-- The four rounds of odd number. -/
def mixA (p : U × U) : U × U := mix 6#32 26#32 (mix 26#32 6#32 (mix 15#32 17#32 (mix 13#32 19#32 p)))

/-- The four rounds of even number. -/
def mixB (p : U × U) : U × U := mix 24#32 8#32 (mix 16#32 16#32 (mix 29#32 3#32 (mix 17#32 15#32 p)))

/-- The twenty rounds under three key words, after the first additions. -/
def crypt (a b c : U) (p : U × U) : U × U :=
  inject c a 5#32 (mixA (inject b c 4#32 (mixB (inject a b 3#32 (mixA (inject c a 2#32 (mixB
    (inject b c 1#32 (mixA p)))))))))

/-- The key of a draw: the seed's key with the draw's number folded in. -/
def key (d : U) : U × U := crypt 0#32 42#32 (0#32 ^^^ 42#32 ^^^ 466688986#32) (0#32 + 0#32, d + 42#32)

/-- The random word of draw `d` at the place `n`. -/
def word (d n : U) : U :=
  let k := key d
  let p := crypt k.1 k.2 (k.1 ^^^ k.2 ^^^ 466688986#32) (k.1, n + k.2)
  p.1 ^^^ p.2

/-- The uniform draw a word gives: its upper 23 bits as a fraction, the least normal number in place of zero. -/
def unif (w : U) : EReal :=
  if w >>> 9#32 = 0#32 then Ideal.ofBits .f32 0x00800000#32
  else (((w >>> 9#32).toNat : ℝ) : EReal) * Ideal.ofBits .f32 0x34000000#32

/-- The Gumbel noise a word gives. -/
def noise (w : U) : EReal := -(Ideal.log (-(Ideal.log (unif w))))

/-- The word `v` is the first column where `f` takes its maximum over a row. -/
def FirstMax (f : ℕ → EReal) (v : U) : Prop :=
  ∃ k < 1000000, v = BitVec.ofNat 32 k ∧ (∀ c < 1000000, f c ≤ f k) ∧ ∀ c < k, f c < f k

/-- There is only one such column. -/
theorem FirstMax.unique {f : ℕ → EReal} {v w : U} (hv : FirstMax f v) (hw : FirstMax f w) : v = w := by
  obtain ⟨k, hk, rfl, h1, h2⟩ := hv
  obtain ⟨k', hk', rfl, h1', h2'⟩ := hw
  rcases lt_trichotomy k k' with h | h | h
  · exact absurd (h2' k h) (not_lt.2 (h1 k' hk'))
  · rw [h]
  · exact absurd (h2 k' h) (not_lt.2 (h1' k hk))

/-- A number below 2 to the 31 read as a signed word. -/
theorem toInt_small (n : Nat) (h : n < 2 ^ 31) : (BitVec.ofNat 32 n).toInt = n := by
  rw [BitVec.toInt_ofNat', Int.bmod_eq_of_le]
  · omega
  · omega

/-- What the lane `l` holds after `n` vectors of 128 columns: the greatest score among its columns and the first
    vector that has it, or nothing yet. -/
def Lane (f : ℕ → EReal) (l n : ℕ) (a : EReal) (k : U) : Prop :=
  (a = ⊥ ∧ k = 0#32 ∧ ∀ p < n, f (128 * p + l) = ⊥) ∨
    ∃ q < n, k = BitVec.ofNat 32 (128 * q) ∧ a = f (128 * q + l) ∧ ⊥ < a ∧ (∀ p < n, f (128 * p + l) ≤ a) ∧
      ∀ p < q, f (128 * p + l) < a

/-- At the start a lane holds nothing. -/
theorem lane_zero (f : ℕ → EReal) (l : ℕ) : Lane f l 0 ⊥ 0#32 := .inl ⟨rfl, rfl, fun _ h => absurd h (Nat.not_lt_zero _)⟩

/-- One more vector. -/
theorem lane_succ {f : ℕ → EReal} {l n : ℕ} {a : EReal} {k : U} (h : Lane f l n a k) :
    Lane f l (n + 1) (if a < f (128 * n + l) then f (128 * n + l) else a)
      (if a < f (128 * n + l) then BitVec.ofNat 32 (128 * n) else k) := by
  rcases h with ⟨ha, hk, h⟩ | ⟨q, hq, hk, ha, hb, h1, h2⟩
  · by_cases hs : a < f (128 * n + l)
    · rw [if_pos hs, if_pos hs]
      refine .inr ⟨n, Nat.lt_succ_self n, rfl, rfl, ha ▸ hs, fun p hp => ?_, fun p hp => ?_⟩
      · rcases Nat.lt_succ_iff_lt_or_eq.1 hp with hp | rfl
        · rw [h p hp]; exact bot_le
        · exact le_rfl
      · rw [h p hp]; exact ha ▸ hs
    · rw [if_neg hs, if_neg hs]
      refine .inl ⟨ha, hk, fun p hp => ?_⟩
      rcases Nat.lt_succ_iff_lt_or_eq.1 hp with hp | rfl
      · exact h p hp
      · exact le_bot_iff.1 (ha ▸ not_lt.1 hs)
  · by_cases hs : a < f (128 * n + l)
    · rw [if_pos hs, if_pos hs]
      refine .inr ⟨n, Nat.lt_succ_self n, rfl, rfl, hb.trans hs, fun p hp => ?_, fun p hp => ?_⟩
      · rcases Nat.lt_succ_iff_lt_or_eq.1 hp with hp | rfl
        · exact (h1 p hp).trans hs.le
        · exact le_rfl
      · exact (h1 p hp).trans_lt hs
    · rw [if_neg hs, if_neg hs]
      refine .inr ⟨q, hq.trans (Nat.lt_succ_self n), hk, ha, hb, fun p hp => ?_, h2⟩
      rcases Nat.lt_succ_iff_lt_or_eq.1 hp with hp | rfl
      · exact h1 p hp
      · exact not_lt.1 hs

/-- The least column among the lanes that hold a row's maximum is the first column of that maximum. -/
theorem first_of_lanes {f : ℕ → EReal} (hf : ∀ c, 1000000 ≤ c → f c = ⊥) {N : ℕ} (hN : 1000000 ≤ 128 * N)
    (hN' : N < 2 ^ 20) {a : Fin 128 → EReal} {k : Fin 128 → U}
    (h : ∀ l : Fin 128, Lane f l.val N (a l) (k l)) {m : EReal} (hm : ∀ l, a l ≤ m) (hm' : m = ⊥ ∨ ∃ l, m = a l)
    {v : U} (hv : ∀ l, a l = m → v.toInt ≤ (k l + BitVec.ofNat 32 l.val).toInt)
    (hv' : v = 2147483647#32 ∨ ∃ l, v = if a l = m then k l + BitVec.ofNat 32 l.val else 2147483647#32) :
    FirstMax f v := by
  have e0 : (2147483647#32 : U).toInt = 2147483647 := by decide
  have hsplit : ∀ c : ℕ, c < 1000000 → ∃ l : Fin 128, ∃ p < N, c = 128 * p + l.val := fun c hc =>
    ⟨⟨c % 128, Nat.mod_lt _ (by norm_num)⟩, c / 128, by omega, by simp only []; omega⟩
  rcases eq_or_ne m ⊥ with hb | hb
  · have ha : ∀ l, a l = ⊥ ∧ k l = 0#32 ∧ ∀ p < N, f (128 * p + l.val) = ⊥ := fun l => by
      rcases h l with h | ⟨q, hq, hk, ha, hb', h1, h2⟩
      · exact h
      · exact absurd (hb ▸ hm l) (not_le.2 hb')
    have hz : v = 0#32 := by
      have hv0 := hv 0 (by rw [(ha 0).1, hb])
      rw [(ha 0).2.1] at hv0
      have hv0' : v.toInt ≤ 0 := hv0
      rcases hv' with rfl | ⟨l, hl⟩
      · rw [e0] at hv0'; omega
      · rw [if_pos (by rw [(ha l).1, hb]), (ha l).2.1, BitVec.zero_add] at hl
        have := l.isLt
        rw [hl, toInt_small _ (by omega)] at hv0'
        have : l.val = 0 := by omega
        rw [hl, this]
    have hall : ∀ c < 1000000, f c = ⊥ := fun c hc => by
      obtain ⟨l, p, hp, rfl⟩ := hsplit c hc
      exact (ha l).2.2 p hp
    exact ⟨0, by norm_num, hz, fun c hc => by rw [hall c hc]; exact bot_le, fun c hc => absurd hc (Nat.not_lt_zero _)⟩
  · have hl : ∀ l, a l = m → ∃ q < N, 128 * q + l.val < 1000000 ∧ k l + BitVec.ofNat 32 l.val = BitVec.ofNat 32 (128 * q + l.val)
        ∧ m = f (128 * q + l.val) ∧ ∀ p < q, f (128 * p + l.val) < m := fun l hal => by
      rcases h l with ⟨h, _⟩ | ⟨q, hq, hk, ha, hb', h1, h2⟩
      · exact absurd (hal.symm.trans h) hb
      · refine ⟨q, hq, ?_, by rw [hk, BitVec.ofNat_add], hal.symm.trans ha, fun p hp => hal ▸ h2 p hp⟩
        by_contra hc
        rw [hf _ (not_lt.1 hc)] at ha
        exact hb (hal.symm.trans ha)
    have hle : ∀ c < 1000000, f c ≤ m := fun c hc => by
      obtain ⟨l, p, hp, rfl⟩ := hsplit c hc
      rcases h l with ⟨_, _, h⟩ | ⟨q, hq, hk, ha, hb', h1, h2⟩
      · rw [h p hp]; exact bot_le
      · exact (h1 p hp).trans (hm l)
    have hex : ∃ l, v = k l + BitVec.ofNat 32 l.val ∧ a l = m := by
      obtain ⟨l0, hl0⟩ := hm'.resolve_left hb
      obtain ⟨q, hq, hc, hk, -⟩ := hl l0 hl0.symm
      have hv0 := hv l0 hl0.symm
      rw [hk, toInt_small _ (by omega)] at hv0
      rcases hv' with rfl | ⟨l, hl⟩
      · rw [e0] at hv0; omega
      · by_cases hal : a l = m
        · exact ⟨l, by rw [hl, if_pos hal], hal⟩
        · rw [if_neg hal] at hl
          rw [hl, e0] at hv0; omega
    obtain ⟨l, hvl, hal⟩ := hex
    obtain ⟨q, hq, hc, hk, hmf, -⟩ := hl l hal
    refine ⟨128 * q + l.val, hc, hvl.trans hk, fun c hc => hmf ▸ hle c hc, fun c hc' => ?_⟩
    rw [← hmf]
    refine lt_of_le_of_ne (hle c (hc'.trans hc)) fun heq => ?_
    obtain ⟨l', p, hp, rfl⟩ := hsplit c (hc'.trans hc)
    have hal' : a l' = m := by
      rcases h l' with ⟨_, _, h⟩ | ⟨q', hq', hk', ha', hb', h1', h2'⟩
      · exact absurd (heq.symm.trans (h p hp)) hb
      · exact le_antisymm (hm l') (heq ▸ h1' p hp)
    obtain ⟨q', hq', hc'', hk', hmf', hlt⟩ := hl l' hal'
    have hqp : q' ≤ p := by
      by_contra hcon
      exact absurd (hlt p (not_le.1 hcon)) (by rw [heq]; exact lt_irrefl _)
    have hv0 := hv l' hal'
    rw [hk', hvl, hk, toInt_small _ (by omega), toInt_small _ (by omega)] at hv0
    omega

/-- The uniform draw as the kernel makes it: a number in `[1, 2)` off the upper bits, less one, raised to the least
    normal number. -/
theorem unif_eq (w : U) :
    max (Ideal.ofBits .f32 0x00800000#32)
      (Ideal.ofBits .f32 (w >>> 9#32 ||| 1065353216#32) - Ideal.ofBits .f32 0x3F800000#32) = unif w := by
  have hk : (w >>> 9#32).toNat < 2 ^ 23 := by
    rw [BitVec.ushiftRight_eq', BitVec.toNat_ushiftRight, Nat.shiftRight_eq_div_pow]
    have := w.isLt
    have e : (9#32 : U).toNat = 9 := rfl
    rw [e]; omega
  unfold unif
  have hz : w >>> 9#32 = 0#32 ↔ (w >>> 9#32).toNat = 0 :=
    ⟨fun h => by rw [h]; rfl, fun h => BitVec.eq_of_toNat_eq (by rw [h]; rfl)⟩
  generalize w >>> 9#32 = k at hk hz ⊢
  have hor : (k ||| 1065353216#32).toNat = 1065353216 + k.toNat := by
    rw [BitVec.toNat_or]
    have := Nat.two_pow_add_eq_or_of_lt hk 127
    rw [Nat.or_comm]
    exact this.symm
  have e1 : Ideal.ofBits .f32 (k ||| 1065353216#32) = (((2 ^ 23 + k.toNat : ℕ) * (2 : ℝ) ^ (-23 : ℤ) : ℝ) : EReal) := by
    change Ideal.ieee 8 23 _ = _
    unfold Ideal.ieee
    have hs : (k ||| 1065353216#32).extractLsb' (8 + 23) 1 = 0#1 := BitVec.eq_of_toNat_eq (by
      rw [BitVec.extractLsb'_toNat, hor, Nat.shiftRight_eq_div_pow]; change _ = 0; omega)
    have hx : ((k ||| 1065353216#32).extractLsb' 23 8).toNat = 127 := by
      rw [BitVec.extractLsb'_toNat, hor, Nat.shiftRight_eq_div_pow]; omega
    have hf : ((k ||| 1065353216#32).extractLsb' 0 23).toNat = k.toNat := by
      rw [BitVec.extractLsb'_toNat, hor, Nat.shiftRight_eq_div_pow]; omega
    simp only [hs, hx, hf]
    norm_num
  have e2 : Ideal.ofBits .f32 0x3F800000#32 = ((1 : ℝ) : EReal) := by
    simp [Ideal.ofBits, Ideal.ieee, -EReal.coe_mul]; norm_num
  have e3 : Ideal.ofBits .f32 0x34000000#32 = (((2 : ℝ) ^ (-23 : ℤ) : ℝ) : EReal) := by
    simp [Ideal.ofBits, Ideal.ieee, -EReal.coe_mul]; norm_num
  have e4 : Ideal.ofBits .f32 0x00800000#32 = (((2 : ℝ) ^ (-126 : ℤ) : ℝ) : EReal) := by
    simp [Ideal.ofBits, Ideal.ieee, -EReal.coe_mul]; norm_num
  rw [e1, e2, e3, e4, ← EReal.coe_sub, ← EReal.coe_mul]
  by_cases h : k = 0#32
  · rw [if_pos h, hz.1 h]
    refine max_eq_left (EReal.coe_le_coe_iff.2 ?_)
    norm_num
  · rw [if_neg h]
    have h1 : (1 : ℝ) ≤ (k.toNat : ℝ) := by
      have : 1 ≤ k.toNat := Nat.one_le_iff_ne_zero.2 fun e => h (hz.2 e)
      exact_mod_cast this
    have e5 : ((2 ^ 23 + k.toNat : ℕ) : ℝ) * (2 : ℝ) ^ (-23 : ℤ) - 1 = (k.toNat : ℝ) * (2 : ℝ) ^ (-23 : ℤ) := by
      push_cast; norm_num; ring
    rw [e5]
    refine max_eq_right (EReal.coe_le_coe_iff.2 ?_)
    calc (2 : ℝ) ^ (-126 : ℤ) ≤ 1 * (2 : ℝ) ^ (-23 : ℤ) := by norm_num
      _ ≤ _ := mul_le_mul_of_nonneg_right h1 (by norm_num)

end Cert.Gumbel

end
-- ==== Proof.Lanes.lean ====
/- What the lanes of the idealized kernel hold along a row: the greatest score of each lane's columns so far. -/
module

public import proofs.«01_k».proof.Proof.Mask
public import proofs.«01_k».proof.Proof.Spec

@[expose] public section

noncomputable section

namespace Cert.KernelIdeal.Block

open Cert.KernelIdeal Cert.KernelIdeal.Gen
open Idealize.ShloMosaic Idealize.ShloMosaic.TcCoe
open Idealize.SL.Sem
open Cert.Gumbel (Lane)

/-! ## The noise, entry by entry -/

/-- A pair of vectors of words at an entry. -/
def at_ (p : S16x512.Idx) (P : Words × Words) : BitVec 32 × BitVec 32 := (P.1 p, P.2 p)

/-- A round, entry by entry. -/
theorem round_at (l r : BitVec 32) (hl : l.toNat < 32) (hr : r.toNat < 32) (p : S16x512.Idx) (P : Words × Words) :
    at_ p (round l r P) = Gumbel.mix l r (at_ p P) := by
  unfold at_ round rot Gumbel.mix
  refine Prod.ext rfl ?_
  change (IntOp.shli .vector (P.2 p) l ||| IntOp.shrui .vector (P.2 p) r) ^^^ _ = _
  rw [IntOp.shli, IntOp.shrui, if_pos hl, if_pos hr]
  rfl

/-- A key injection, entry by entry. -/
theorem inject_at (a b n : BitVec 32) (p : S16x512.Idx) (P : Words × Words) :
    at_ p (inject a b n P) = Gumbel.inject a b n (at_ p P) := rfl

/-- Four rounds of odd number, entry by entry. -/
theorem roundsA_at (p : S16x512.Idx) (P : Words × Words) : at_ p (roundsA P) = Gumbel.mixA (at_ p P) := by
  unfold roundsA Gumbel.mixA
  rw [round_at _ _ (by decide) (by decide), round_at _ _ (by decide) (by decide), round_at _ _ (by decide) (by decide),
    round_at _ _ (by decide) (by decide)]

/-- Four rounds of even number, entry by entry. -/
theorem roundsB_at (p : S16x512.Idx) (P : Words × Words) : at_ p (roundsB P) = Gumbel.mixB (at_ p P) := by
  unfold roundsB Gumbel.mixB
  rw [round_at _ _ (by decide) (by decide), round_at _ _ (by decide) (by decide), round_at _ _ (by decide) (by decide),
    round_at _ _ (by decide) (by decide)]

/-- The cipher, entry by entry. -/
theorem cipher_at (a b c : BitVec 32) (x : Words) (p : S16x512.Idx) :
    at_ p (cipher a b c x) = Gumbel.crypt a b c (a, x p + b) := by
  unfold cipher Gumbel.crypt
  simp only [inject_at, roundsA_at, roundsB_at]
  rfl

/-- The key words the kernel is printed with are those of the seed and the draw. -/
theorem key_eq (d : Fin 4) : Gumbel.key (BitVec.ofNat 32 d.val) = ((key d).1, (key d).2.1)
    ∧ (key d).1 ^^^ (key d).2.1 ^^^ 466688986#32 = (key d).2.2 := by
  fin_cases d <;> decide +kernel

/-- The random words, entry by entry. -/
theorem bits_at (d : Fin 4) (x : Words) (p : S16x512.Idx) : bits d x p = Gumbel.word (BitVec.ofNat 32 d.val) (x p) := by
  unfold Gumbel.word
  simp only [(key_eq d).1, (key_eq d).2]
  rw [← cipher_at]
  rfl

/-- The scores, entry by entry. -/
theorem score_at (d : Fin 4) (x : FVec Ideal S16x512 .f32) (P : Words) (p : S16x512.Idx) :
    score d x P p = (x p : EReal) + Gumbel.noise (Gumbel.word (BitVec.ofNat 32 d.val) (P p)) := by
  have hu : unif (F := Ideal) (bits d P) p = Gumbel.unif (Gumbel.word (BitVec.ofNat 32 d.val) (P p)) := by
    rw [← bits_at, ← Gumbel.unif_eq]
    change max (Ideal.ofBits .f32 0x00800000#32)
      (Ideal.ofBits .f32 (IntOp.shrui .vector (bits d P p) 9#32 ||| 1065353216#32) - Ideal.ofBits .f32 0x3F800000#32) = _
    rw [IntOp.shrui, if_pos (by decide)]
  have e0 : Ideal.ofBits .f32 0x00000000#32 = 0 := by
    simp [Ideal.ofBits, Ideal.ieee]
  unfold Gumbel.noise
  rw [← hu]
  change (x p : EReal) + (Ideal.ofBits .f32 0x00000000#32 - Ideal.log (Ideal.ofBits .f32 0x00000000#32
    - Ideal.log (unif (F := Ideal) (bits d P) p))) = _
  rw [e0, zero_sub, zero_sub]

/-! ## One vector of 128 columns, and more -/

/-- A choice by a greater-than between extended reals. -/
theorem select_ogt {α : Type} (x y : EReal) (u v : α) :
    (if Ideal.cmp .ogt x y = 1#1 then u else v) = if y < x then u else v := by
  change (if BitVec.ofBool (decide (y < x)) = 1#1 then u else v) = _
  by_cases h : y < x
  · rw [if_pos h, if_pos (by rw [decide_eq_true h]; rfl)]
  · rw [if_neg h, if_neg (by rw [decide_eq_false h]; decide)]

/-- One vector of 128 columns. -/
theorem better_lane {f : ℕ → EReal} {n : ℕ} {s : FVec Ideal S16x128 .f32} {w : BitVec 32} {b : Best Ideal}
    {p : S16x128.Idx} (h : Lane f (p 1).val n (b.1 p) (b.2 p)) (hs : s p = f (128 * n + (p 1).val))
    (hw : w = BitVec.ofNat 32 (128 * n)) : Lane f (p 1).val (n + 1) ((better s w b).1 p) ((better s w b).2 p) := by
  have h1 : (better s w b).1 p = if (b.1 p : EReal) < s p then s p else b.1 p := select_ogt (s p) (b.1 p) _ _
  have h2 : (better s w b).2 p = if (b.1 p : EReal) < s p then w else b.2 p := select_ogt (s p) (b.1 p) _ _
  rw [h1, h2, hs, hw]
  exact Gumbel.lane_succ h

/-- The first column of a vector, as a number. -/
theorem column_eq (j s o : ℕ) : column (BitVec.ofNat 32 j) (BitVec.ofNat 32 s) (BitVec.ofNat 32 o) = BitVec.ofNat 32 (4096 * j + s + o) := by
  change BitVec.ofNat 32 j * BitVec.ofNat 32 4096 + BitVec.ofNat 32 s + BitVec.ofNat 32 o = _
  rw [← BitVec.ofNat_mul, ← BitVec.ofNat_add, ← BitVec.ofNat_add, Nat.mul_comm j 4096]

/-- 512 columns. -/
theorem better4_lane {f : ℕ → EReal} {j s N : ℕ} (hN : 128 * N = 4096 * j + s) {v : FVec Ideal S16x512 .f32} {b : Best Ideal}
    {p : S16x128.Idx} (hv : ∀ q : S16x512.Idx, (q 0).val = (p 0).val → v q = f (4096 * j + s + (q 1).val))
    (h : Lane f (p 1).val N (b.1 p) (b.2 p)) :
    Lane f (p 1).val (N + 4) ((better4 (BitVec.ofNat 32 j) (BitVec.ofNat 32 s) v b).1 p)
      ((better4 (BitVec.ofNat 32 j) (BitVec.ofNat 32 s) v b).2 p) := by
  have hc := column_eq j s
  unfold better4
  refine better_lane (n := N + 3) (better_lane (n := N + 2) (better_lane (n := N + 1) (better_lane h ?_ ?_) ?_ ?_) ?_ ?_) ?_ ?_
  · refine (hv _ (Nat.zero_add _)).trans (congrArg f ?_)
    change 4096 * j + s + (0 + (p 1).val) = _; omega
  · exact (hc 0).trans (congrArg _ (by omega))
  · refine (hv _ (Nat.zero_add _)).trans (congrArg f ?_)
    change 4096 * j + s + (128 + (p 1).val) = _; omega
  · exact (hc 128).trans (congrArg _ (by omega))
  · refine (hv _ (Nat.zero_add _)).trans (congrArg f ?_)
    change 4096 * j + s + (256 + (p 1).val) = _; omega
  · exact (hc 256).trans (congrArg _ (by omega))
  · refine (hv _ (Nat.zero_add _)).trans (congrArg f ?_)
    change 4096 * j + s + (384 + (p 1).val) = _; omega
  · exact (hc 384).trans (congrArg _ (by omega))

/-- 512 columns of a block, scored and read. -/
theorem step_lane {f : ℕ → EReal} {d : Fin 4} {j n N : ℕ} (hN : 128 * N = 4096 * j + n) {X : FVec Ideal S16x4096 .f32}
    {P : IVec S16x4096 32} {hs : S16x4096.Slices ![0, n] S16x512} {b : Best Ideal} {p : S16x128.Idx}
    (hX : ∀ q : S16x4096.Idx, (q 0).val = (p 0).val →
      (X q : EReal) + Gumbel.noise (Gumbel.word (BitVec.ofNat 32 d.val) (P q)) = f (4096 * j + (q 1).val))
    (h : Lane f (p 1).val N (b.1 p) (b.2 p)) :
    Lane f (p 1).val (N + 4) ((step d (BitVec.ofNat 32 j) X P n hs b).1 p) ((step d (BitVec.ofNat 32 j) X P n hs b).2 p) := by
  unfold step
  refine better4_lane hN (fun q hq => ?_) h
  rw [score_at]
  refine (hX _ ((Nat.zero_add _).trans hq)).trans (congrArg f ?_)
  change 4096 * j + (n + (q 1).val) = _; omega

/-- A whole block. -/
theorem block_lane {f : ℕ → EReal} {d : Fin 4} {j : ℕ} {X : FVec Ideal S16x4096 .f32}
    {P : IVec S16x4096 32} {b : Best Ideal} {p : S16x128.Idx}
    (hX : ∀ q : S16x4096.Idx, (q 0).val = (p 0).val →
      (X q : EReal) + Gumbel.noise (Gumbel.word (BitVec.ofNat 32 d.val) (P q)) = f (4096 * j + (q 1).val))
    (h : Lane f (p 1).val (32 * j) (b.1 p) (b.2 p)) :
    Lane f (p 1).val (32 * (j + 1)) ((block d (BitVec.ofNat 32 j) X P b).1 p) ((block d (BitVec.ofNat 32 j) X P b).2 p) := by
  unfold block
  exact step_lane (N := 32 * j + 28) (by omega) hX (step_lane (N := 32 * j + 24) (by omega) hX
    (step_lane (N := 32 * j + 20) (by omega) hX (step_lane (N := 32 * j + 16) (by omega) hX
    (step_lane (N := 32 * j + 12) (by omega) hX (step_lane (N := 32 * j + 8) (by omega) hX
    (step_lane (N := 32 * j + 4) (by omega) hX (step_lane (N := 32 * j) (by omega) hX h)))))))

/-! ## The rows of the argument -/

/-- The score of column `c` of row `r` for draw `d`: minus infinity past the last column. -/
def scoreOf (A : S32x1000000.Idx → EReal) (d : ℕ) (r : Fin 32) (c : ℕ) : EReal :=
  if h : c < 1000000 then
    A (fun | 0 => r | 1 => ⟨c, h⟩) + Gumbel.noise (Gumbel.word (BitVec.ofNat 32 d) (BitVec.ofNat 32 (1000000 * r.val + c)))
  else ⊥

/-- The places of a block's entries. -/
theorem places_at (i j : ℕ) (q : S16x4096.Idx) :
    places (BitVec.ofNat 32 i) (BitVec.ofNat 32 j) q
      = BitVec.ofNat 32 (1000000 * (16 * i + (q 0).val) + (4096 * j + (q 1).val)) := by
  have e : places (BitVec.ofNat 32 i) (BitVec.ofNat 32 j) q
      = (iota .tc S16x4096 32 [0] iota_S16x4096_d0_w32 q + BitVec.ofNat 32 i * BitVec.ofNat 32 16) * BitVec.ofNat 32 1000000
        + cols (BitVec.ofNat 32 j) q := rfl
  rw [e, cols_at]
  unfold iota
  simp only [List.foldl_cons, List.foldl_nil, Nat.zero_mul, Nat.zero_add]
  rw [← BitVec.ofNat_mul, ← BitVec.ofNat_add, ← BitVec.ofNat_mul, ← BitVec.ofNat_add]
  congr 1
  change ((q 0).val + i * 16) * 1000000 + _ = _
  omega

/-- The scores of a block's entries are the row's. -/
theorem masked_score (A : S32x1000000.Idx → EReal) (d : Fin 4) (i j : ℕ) (hj : j < 245)
    (X : FVec Ideal S16x4096 .f32) (r : Fin 32) (q : S16x4096.Idx) (hr : r.val = 16 * i + (q 0).val)
    (hX : ∀ h : 4096 * j + (q 1).val < 1000000, X q = A (fun | 0 => r | 1 => ⟨4096 * j + (q 1).val, h⟩)) :
    (masked (BitVec.ofNat 32 j) X q : EReal)
        + Gumbel.noise (Gumbel.word (BitVec.ofNat 32 d.val) (places (BitVec.ofNat 32 i) (BitVec.ofNat 32 j) q))
      = scoreOf A d.val r (4096 * j + (q 1).val) := by
  rw [masked_at j hj, places_at, ← hr]
  unfold scoreOf
  by_cases h : 4096 * j + (q 1).val < 1000000
  · rw [if_pos h, dif_pos h, hX h]
  · rw [if_neg h, dif_neg h]
    have e : Scalar.ofBits (F := Ideal) .f32 0xFF800000#32 = (⊥ : EReal) := by
      change Ideal.ofBits .f32 0xFF800000#32 = _
      simp [Ideal.ofBits, Ideal.ieee]
    rw [e]; exact EReal.bot_add _

end Cert.KernelIdeal.Block

end
-- ==== Proof.Drawn.lean ====
/- What the idealized kernel draws off a row's lanes: the first column of the row's greatest score. -/
module

public import proofs.«01_k».proof.Proof.Lanes
public import Idealize.ShloMosaic.PureOps.Reduce
public import Idealize.ShloMosaic.Lib.Pipeline.Value

@[expose] public section

noncomputable section

namespace Cert.KernelIdeal.Block

open Cert.KernelIdeal Cert.KernelIdeal.Gen
open Idealize.ShloMosaic Idealize.ShloMosaic.TcCoe
open Idealize.SL.Sem
open Cert.Gumbel (Lane)

/-- A running choice off a list starts at its initial value or ends at an entry, and is as good as each entry. -/
theorem foldl_choice {α β : Type} (le : β → β → Prop) (hrefl : ∀ a, le a a) (htrans : ∀ a b c, le a b → le b c → le a c)
    (g : β → β → β) (hg : ∀ a b, g a b = a ∨ g a b = b) (hl : ∀ a b, le (g a b) a) (hr : ∀ a b, le (g a b) b)
    (x : α → β) (L : List α) (init : β) :
    (L.foldl (fun r n => g r (x n)) init = init ∨ ∃ n ∈ L, L.foldl (fun r n => g r (x n)) init = x n)
      ∧ le (L.foldl (fun r n => g r (x n)) init) init ∧ ∀ n ∈ L, le (L.foldl (fun r n => g r (x n)) init) (x n) := by
  induction L generalizing init with
  | nil => exact ⟨.inl rfl, hrefl _, fun _ h => absurd h List.not_mem_nil⟩
  | cons a L ih =>
    rw [List.foldl_cons]
    obtain ⟨h1, h2, h3⟩ := ih (g init (x a))
    refine ⟨?_, htrans _ _ _ h2 (hl _ _), fun n hn => ?_⟩
    · rcases h1 with h1 | ⟨n, hn, h1⟩
      · rcases hg init (x a) with h | h
        · exact .inl (h1.trans h)
        · exact .inr ⟨a, List.mem_cons_self, h1.trans h⟩
      · exact .inr ⟨n, List.mem_cons_of_mem _ hn, h1⟩
    · rcases List.mem_cons.1 hn with rfl | hn
      · exact htrans _ _ _ h2 (hr _ _)
      · exact h3 n hn

/-- The place of lane `l` in row `r`. -/
def lane (r : Fin 16) (l : Fin 128) : S16x128.Idx := fun | 0 => r | 1 => l

/-- The places of a row are its lanes. -/
theorem drop_iff (h : S16x128.Reduces [1] S16) (i : S16x128.Idx) (r : S16.Idx) : h.drop i = r ↔ ∃ l, i = lane (r 0) l := by
  have hd : (h.drop i 0 : Nat) = i 0 := h.drop_apply_val_of_eq i 0 0
  constructor
  · intro e
    refine ⟨i 1, funext fun a => ?_⟩
    fin_cases a
    · exact Fin.ext (by rw [e] at hd; exact hd.symm)
    · rfl
  · rintro ⟨l, rfl⟩
    funext a
    fin_cases a
    exact Fin.ext hd

/-- The maximum over a row's lanes. -/
theorem max_row (h : S16x128.Reduces [1] S16) (x : S16x128.Idx → EReal) (r : S16.Idx) :
    (∀ l, x (lane (r 0) l) ≤ reduceFold h max ⊥ x r) ∧ (reduceFold h max ⊥ x r = ⊥ ∨ ∃ l, reduceFold h max ⊥ x r = x (lane (r 0) l)) := by
  rw [reduceFold_eq_foldl]
  obtain ⟨h1, -, h3⟩ := foldl_choice (fun a b : EReal => b ≤ a) (fun _ => le_rfl) (fun _ _ _ h h' => h'.trans h) max
    (fun a b => max_choice a b) (fun a b => le_max_left a b) (fun a b => le_max_right a b) x
    (((List.finRange S16x128.numel).map S16x128.rowMajor.symm).filter fun i => h.drop i = r) ⊥
  have hm : ∀ i, i ∈ (((List.finRange S16x128.numel).map S16x128.rowMajor.symm).filter fun i => h.drop i = r) ↔ h.drop i = r := fun i => by
    rw [List.mem_filter, decide_eq_true_iff]
    exact ⟨fun h => h.2, fun h => ⟨List.mem_map.2 ⟨S16x128.rowMajor i, List.mem_finRange _, Equiv.symm_apply_apply _ _⟩, h⟩⟩
  refine ⟨fun l => h3 _ ((hm _).2 ((drop_iff h _ r).2 ⟨l, rfl⟩)), h1.imp_right ?_⟩
  rintro ⟨i, hi, e⟩
  obtain ⟨l, rfl⟩ := (drop_iff h _ r).1 ((hm i).1 hi)
  exact ⟨l, e⟩

/-- The signed minimum over a row's lanes. -/
theorem min_row (h : S16x128.Reduces [1] S16) (x : S16x128.Idx → BitVec 32) (c : BitVec 32) (r : S16.Idx) :
    (∀ l, (reduceFold h IntOp.minsi c x r).toInt ≤ (x (lane (r 0) l)).toInt)
      ∧ (reduceFold h IntOp.minsi c x r = c ∨ ∃ l, reduceFold h IntOp.minsi c x r = x (lane (r 0) l)) := by
  rw [reduceFold_eq_foldl]
  have hmin : ∀ a b : BitVec 32, (IntOp.minsi a b = a ∧ a.toInt ≤ b.toInt) ∨ (IntOp.minsi a b = b ∧ b.toInt ≤ a.toInt) := fun a b => by
    unfold IntOp.minsi
    by_cases hs : a.slt b = true
    · rw [if_pos hs]
      rw [BitVec.slt, decide_eq_true_iff] at hs
      exact .inl ⟨rfl, hs.le⟩
    · rw [if_neg hs]
      rw [BitVec.slt, decide_eq_true_iff] at hs
      exact .inr ⟨rfl, not_lt.1 hs⟩
  obtain ⟨h1, -, h3⟩ := foldl_choice (fun a b : BitVec 32 => a.toInt ≤ b.toInt) (fun _ => le_rfl) (fun _ _ _ h h' => h.trans h') IntOp.minsi
    (fun a b => (hmin a b).imp And.left And.left)
    (fun a b => by rcases hmin a b with ⟨e, _⟩ | ⟨e, h⟩ <;> rw [e]; exact h)
    (fun a b => by rcases hmin a b with ⟨e, h⟩ | ⟨e, _⟩ <;> rw [e]; exact h) x
    (((List.finRange S16x128.numel).map S16x128.rowMajor.symm).filter fun i => h.drop i = r) c
  have hm : ∀ i, i ∈ (((List.finRange S16x128.numel).map S16x128.rowMajor.symm).filter fun i => h.drop i = r) ↔ h.drop i = r := fun i => by
    rw [List.mem_filter, decide_eq_true_iff]
    exact ⟨fun h => h.2, fun h => ⟨List.mem_map.2 ⟨S16x128.rowMajor i, List.mem_finRange _, Equiv.symm_apply_apply _ _⟩, h⟩⟩
  refine ⟨fun l => h3 _ ((hm _).2 ((drop_iff h _ r).2 ⟨l, rfl⟩)), h1.imp_right ?_⟩
  rintro ⟨i, hi, e⟩
  obtain ⟨l, rfl⟩ := (drop_iff h _ r).1 ((hm i).1 hi)
  exact ⟨l, e⟩

/-- The column drawn for a row whose lanes hold the greatest scores of its columns. -/
theorem drawn_first {f : ℕ → EReal} (hf : ∀ c, 1000000 ≤ c → f c = ⊥) (a : FVec Ideal S1x16x128 .f32) (k : IVec S1x16x128 32)
    (q : S1x1x16.Idx)
    (h : ∀ l, Lane f l.val 7840 (shapeCast S16x128 a shapeCasts_S1x16x128_S16x128 (lane (q 2) l))
      (shapeCast S16x128 k shapeCasts_S1x16x128_S16x128 (lane (q 2) l))) :
    Gumbel.FirstMax f (drawn a k q) := by
  unfold drawn
  generalize shapeCast S16x128 a shapeCasts_S1x16x128_S16x128 = A at h ⊢
  generalize shapeCast S16x128 k shapeCasts_S1x16x128_S16x128 = K at h ⊢
  have e0 : Ideal.ofBits .f32 0xFF800000#32 = (⊥ : EReal) := by simp [Ideal.ofBits, Ideal.ieee]
  let r : S16.Idx := fun | 0 => q 2
  rw [shapeCast_apply _ _ q r (by
    have h0 : (q 0).val < 1 := (q 0).isLt
    have h1 : (q 1).val < 1 := (q 1).isLt
    rw [Shape.rowMajor_val_one, Shape.rowMajor_val_three]
    change (q 2).val = _
    simp only [show (q 0).val = 0 by omega, show (q 1).val = 0 by omega]
    omega)]
  let M := multiReduction .maximumf [1] S16 A 0xFF800000#32 reduces_S16x128_S16 (.inl rfl) rfl
  have hM : M r = reduceFold reduces_S16x128_S16 max ⊥ A r := by
    change reduceFold reduces_S16x128_S16 max (Ideal.ofBits .f32 0xFF800000#32) A r = _
    rw [e0]
  obtain ⟨hm, hm'⟩ := max_row reduces_S16x128_S16 A r
  rw [← hM] at hm hm'
  have hx : ∀ l, (select (cmpf .oeq A (broadcastTo S16x128 (shapeCast S16x1 M shapeCasts_S16_S16x1) broadcasts_S16x1_S16x128))
      (addi K (iota .tc S16x128 32 [1] iota_S16x128_d1_w32)) (broadcast S16x128 2147483647#32)) (lane (r 0) l)
        = if A (lane (r 0) l) = M r then K (lane (r 0) l) + BitVec.ofNat 32 l.val else 2147483647#32 := fun l => by
    have hb : broadcastTo S16x128 (shapeCast S16x1 M shapeCasts_S16_S16x1) broadcasts_S16x1_S16x128 (lane (r 0) l) = M r := by
      let z : S16x1.Idx := fun | 0 => r 0 | 1 => (0 : Fin 1)
      rw [broadcastTo_apply _ _ _ z (by intro a; fin_cases a <;> rfl)]
      exact shapeCast_apply _ _ z r (by
        rw [Shape.rowMajor_val_one, Shape.rowMajor_val_two]
        change (r 0).val = (r 0).val * 1 + 0
        omega)
    have hi : iota .tc S16x128 32 [1] iota_S16x128_d1_w32 (lane (r 0) l) = BitVec.ofNat 32 l.val := by
      unfold iota
      simp only [List.foldl_cons, List.foldl_nil, Nat.zero_mul, Nat.zero_add]
      rfl
    change (if Ideal.cmp .oeq (A (lane (r 0) l)) (broadcastTo S16x128 (shapeCast S16x1 M shapeCasts_S16_S16x1) broadcasts_S16x1_S16x128 (lane (r 0) l)) = 1#1
      then K (lane (r 0) l) + iota .tc S16x128 32 [1] iota_S16x128_d1_w32 (lane (r 0) l) else 2147483647#32) = _
    rw [hb, hi]
    change (if BitVec.ofBool (decide (A (lane (r 0) l) = M r)) = 1#1 then _ else _) = _
    by_cases hc : A (lane (r 0) l) = M r
    · rw [if_pos hc, if_pos (by rw [decide_eq_true hc]; rfl)]
    · rw [if_neg hc, if_neg (by rw [decide_eq_false hc]; decide)]
  obtain ⟨hv, hv'⟩ := min_row reduces_S16x128_S16 (select (cmpf .oeq A (broadcastTo S16x128 (shapeCast S16x1 M shapeCasts_S16_S16x1) broadcasts_S16x1_S16x128))
      (addi K (iota .tc S16x128 32 [1] iota_S16x128_d1_w32)) (broadcast S16x128 2147483647#32)) 2147483647#32 r
  simp only [hx] at hv hv'
  refine Gumbel.first_of_lanes hf (N := 7840) (by norm_num) (by norm_num) h hm hm' (fun l hl => ?_) hv'
  have := hv l
  rw [if_pos hl] at this
  exact this

end Cert.KernelIdeal.Block

end
-- ==== Proof.KValue.lean ====
/- The value of the idealized kernel: every element of its result is the first column of its row's greatest score. -/
module

public import proofs.«01_k».proof.Proof.Whole
public import proofs.«01_k».proof.Proof.Drawn

@[expose] public section

noncomputable section

namespace Cert.KernelIdeal.Block

open Cert.KernelIdeal Cert.KernelIdeal.Gen
open Idealize.ShloMosaic Idealize.ShloMosaic.TcCoe
open Idealize.SL.Sem
open Idealize.ShloMosaic.Pipeline (Dat Cfg Window)
open Cert.Gumbel (Lane FirstMax)

variable (m : (ℓ : Loc nD τ sig) → Buf (Elt Ideal) ℓ)

/-- The argument as the kernel finds it. -/
abbrev logits (c : Dev nD) : S32x1000000.Idx → EReal := m ((c.tc : Thread nD τ).loc main_arg0)

/-- The entry at row `r` and column `k`. -/
abbrev entry (r : Fin 32) (k : Fin 1000000) : S32x1000000.Idx := fun | 0 => r | 1 => k

/-- A block's entries are the argument's. -/
theorem block_entry (c : Dev nD) (t : Fin cfg0.N) (q : S16x4096.Idx) (r : Fin 32) (hr : r.val = 16 * (t.val / 245) + (q 0).val)
    (h : 4096 * (t.val % 245) + (q 1).val < 1000000) :
    blockAt m c t q = logits m c (entry r ⟨4096 * (t.val % 245) + (q 1).val, h⟩) := by
  have hco := coords_of t
  unfold blockAt Window.fill
  rw [dif_pos (moved_of_lt _ q (by rw [hco.2]; exact h))]
  unfold iblk
  rw [View.read_apply]
  refine (cast_eq _ _).trans (congrArg (logits m c) (funext fun a => Fin.ext ?_))
  have hc := coord_lt (grid0.coords t)
  have hv := win0_0.rect_emb_val t (fun a => ⟨(q a).val, (win0_0.moved_iff _ _).1 (moved_of_lt _ q (by rw [hco.2]; exact h)) a⟩) a
  refine hv.trans ?_
  fin_cases a
  · change cc0_transform_0 (grid0.coords t) 0 * 16 + (q 0).val = r.val
    have e0 : cc0_transform_0 (grid0.coords t) 0 = (grid0.coords t 0).val := by
      change (BitVec.ofNat 32 (grid0.coords t 0).val).toNat = _; rw [BitVec.toNat_ofNat]; omega
    rw [e0, hco.1, hr]; omega
  · change cc0_transform_0 (grid0.coords t) 1 * 4096 + (q 1).val = 4096 * (t.val % 245) + (q 1).val
    have e1 : cc0_transform_0 (grid0.coords t) 1 = (grid0.coords t 1).val := by
      change (BitVec.ofNat 32 (grid0.coords t 1).val).toNat = _; rw [BitVec.toNat_ofNat]; omega
    rw [e1, hco.2]; omega

/-- The lanes `s` hold, after `n` vectors, the greatest scores of the rows of half `i`. -/
def Holds (c : Dev nD) (i n : ℕ) (s : Lanes Ideal) : Prop :=
  ∀ (d : Fin 4) (p : S16x128.Idx) (r : Fin 32), r.val = 16 * i + (p 0).val →
    Lane (scoreOf (logits m c) d.val r) (p 1).val n (shapeCast S16x128 (s.1 d) shapeCasts_S1x16x128_S16x128 p)
      (shapeCast S16x128 (s.2 d) shapeCasts_S1x16x128_S16x128 p)

/-- Before the first block they do. -/
theorem start_holds (c : Dev nD) (i : ℕ) : Holds m c i 0 start := fun d p r _ => by
  have e : Scalar.ofBits (F := Ideal) .f32 0xFF800000#32 = (⊥ : EReal) := by
    change Ideal.ofBits .f32 0xFF800000#32 = _
    simp [Ideal.ofBits, Ideal.ieee]
  change Lane _ _ 0 (Scalar.ofBits (F := Ideal) .f32 0xFF800000#32) 0#32
  rw [e]
  exact Gumbel.lane_zero _ _

/-- A block carries them on. -/
theorem pass_holds (c : Dev nD) (t : Fin cfg0.N) (s : Lanes Ideal)
    (h : t.val % 245 ≠ 0 → Holds m c (t.val / 245) (32 * (t.val % 245)) s) :
    Holds m c (t.val / 245) (32 * (t.val % 245 + 1)) (pass (grid0.coords t) (blockAt m c t) s) := by
  have hco := coords_of t
  have hs : Holds m c (t.val / 245) (32 * (t.val % 245)) (if atFirst (grid0.coords t) then start else s) := by
    by_cases h0 : t.val % 245 = 0
    · rw [if_pos ((atFirst_iff _).2 (by rw [hco.2, h0])), h0]
      exact start_holds m c _
    · rw [if_neg (fun ha => h0 (by rw [← hco.2]; exact (atFirst_iff _).1 ha))]
      exact h h0
  intro d p r hr
  unfold pass
  generalize (if atFirst (grid0.coords t) then start else s) = z at hs ⊢
  unfold next
  rw [hco.1, hco.2]
  simp only [shapeCast_shapeCast]
  unfold lanes
  refine block_lane (fun q hq => ?_) (hs d p r hr)
  exact masked_score (logits m c) d (t.val / 245) (t.val % 245) (Nat.mod_lt _ (by norm_num)) (blockAt m c t) r q
    (by rw [hr, hq]) fun hlt => block_entry m c t q r (by rw [hr, hq]) hlt

/-- After every point the lanes hold the greatest scores so far of the rows they are at. -/
theorem lanesAt_holds (c : Dev nD) : ∀ (n : ℕ) (h : n < 490), Holds m c (n / 245) (32 * (n % 245 + 1)) (lanesAt m c (n + 1))
  | 0, h => by
    rw [lanesAt_succ m c (⟨0, h⟩ : Fin cfg0.N)]
    exact pass_holds m c ⟨0, h⟩ _ fun hn => absurd rfl hn
  | n + 1, h => by
    rw [lanesAt_succ m c (⟨n + 1, h⟩ : Fin cfg0.N)]
    refine pass_holds m c ⟨n + 1, h⟩ _ fun hn => ?_
    have ih := lanesAt_holds c n (by omega)
    have hn' : (n + 1) % 245 ≠ 0 := hn
    have e1 : n / 245 = (n + 1) / 245 := by omega
    have e2 : n % 245 + 1 = (n + 1) % 245 := by omega
    rw [e1, e2] at ih
    exact ih

/-- The scores past the last column are minus infinity. -/
theorem scoreOf_past (A : S32x1000000.Idx → EReal) (d : ℕ) (r : Fin 32) (k : ℕ) (h : 1000000 ≤ k) : scoreOf A d r k = ⊥ :=
  dif_neg (not_lt.2 h)

/-- What the region leaves in the array it writes: at half `i`, draw `d` and row `r` of the half, the first column of the
    greatest score of row `16 i + r`. -/
theorem array_first (c : Dev nD) (x : S2x4x16.Idx) (r : Fin 32) (hr : r.val = 16 * (x 0).val + (x 2).val) :
    FirstMax (scoreOf (logits m c) (x 1).val r) ((dats m 0 c).arrAt (1 : Fin 2) cfg0.N x) := by
  revert r
  refine (dats m 0 c).arrAt_forall_of_cover (1 : Fin 2)
    (fun (x : S2x4x16.Idx) (v : BitVec 32) => ∀ r : Fin 32, r.val = 16 * (x 0).val + (x 2).val →
      FirstMax (scoreOf (logits m c) (x 1).val r) v) ?_ ?_ x
  · intro t hf y r hr
    have ht := (flush0_1 t).1 hf
    have hco := coords_of t
    have htl : t.val < 490 := t.isLt
    have e0 : cc0_transform_1 (grid0.coords t) 0 = t.val / 245 := by
      change (BitVec.ofNat 32 (grid0.coords t 0).val).toNat = _; rw [BitVec.toNat_ofNat, hco.1]; omega
    have hv := fun a => win0_1.rect_emb_val t y a
    have h0 : ((((cfg0.win 1).blk t).view.emb y : S2x4x16.Idx) 0).val = t.val / 245 := by
      refine (hv 0).trans ?_
      change cc0_transform_1 (grid0.coords t) 0 * 1 + (y 0).val = _
      have : (y 0).val < 1 := (y 0).isLt
      rw [e0]; omega
    have h1 : ((((cfg0.win 1).blk t).view.emb y : S2x4x16.Idx) 1).val = (y 1).val := by
      refine (hv 1).trans ?_
      change 0 * 4 + (y 1).val = _
      omega
    have h2 : ((((cfg0.win 1).blk t).view.emb y : S2x4x16.Idx) 2).val = (y 2).val := by
      refine (hv 2).trans ?_
      change 0 * 16 + (y 2).val = _
      omega
    rw [h0, h2] at hr
    rw [h1]
    refine (drawn_first (scoreOf_past _ _ _) ((lanesAt m c (t.val + 1)).1 (y 1)) ((lanesAt m c (t.val + 1)).2 (y 1))
      (fun | 0 => (0 : Fin 1) | 1 => (0 : Fin 1) | 2 => y 2) fun l => ?_ :)
    have hl := lanesAt_holds m c t.val htl (y 1) (lane (y 2) l) r hr
    rw [ht] at hl
    exact hl
  · intro x
    let x' : S2x4x16.Idx := x
    have hx : (x' 0).val < 2 := (x' 0).isLt
    let t : Fin cfg0.N := ⟨245 * (x' 0).val + 244, (by omega : 245 * (x' 0).val + 244 < 490)⟩
    have hco := coords_of t
    have ht : t.val = 245 * (x' 0).val + 244 := rfl
    refine ⟨t, (flush0_1 t).2 (by rw [ht]; omega), ?_⟩
    have e0 : cc0_transform_1 (grid0.coords t) 0 = (x' 0).val := by
      change (BitVec.ofNat 32 (grid0.coords t 0).val).toNat = _; rw [BitVec.toNat_ofNat, hco.1, ht]; omega
    have e : x = ((cfg0.win 1).blk t).view.emb (fun | 0 => (0 : Fin 1) | 1 => x' 1 | 2 => x' 2) := by
      funext a
      apply Fin.ext
      refine Eq.trans ?_ (win0_1.rect_emb_val t (fun | 0 => (0 : Fin 1) | 1 => x' 1 | 2 => x' 2) a).symm
      fin_cases a
      · change (x' 0).val = cc0_transform_1 (grid0.coords t) 0 * 1 + 0
        rw [e0]; omega
      · change (x' 1).val = 0 * 4 + (x' 1).val
        omega
      · change (x' 2).val = 0 * 16 + (x' 2).val
        omega
    rw [e]
    exact View.emb_mem_set _ _

end Cert.KernelIdeal.Block

end
-- ==== Proof.KResult.lean ====
/- The result of the idealized kernel's run: at each draw and row, the first column of the row's greatest score. -/
module

public import proofs.«01_k».proof.Proof.KValue

@[expose] public section

noncomputable section

namespace Cert.KernelIdeal.Block

open Cert.KernelIdeal Cert.KernelIdeal.Gen
open Idealize.ShloMosaic Idealize.ShloMosaic.TcCoe
open Idealize.SL.Sem
open Idealize.ShloMosaic.Pipeline (Dat Cfg Window)
open Cert.Gumbel (Lane FirstMax)

variable (m : (ℓ : Loc nD τ sig) → Buf (Elt Ideal) ℓ) (ρ : Dev nD → PrngReg)

/-- What the kernel's result buffer ends at. -/
def result (c : Dev nD) : S4x32.Idx → BitVec 32 :=
  Pipeline.afterTail₀ cfgs (dats m) 0 (V0 m) [hostOps1] c main_v2

/-- It is the region's array, transposed and laid out. -/
theorem result_eq (c : Dev nD) : result m c
    = shapeCast S4x32 (transpose S4x2x16 [1, 0, 2] ((dats m 0 c).arrAt (1 : Fin 2) cfg0.N) transposes_S2x4x16_S4x2x16_1_0_2)
        shapeCasts_S4x2x16_S4x32 := by
  unfold result Pipeline.afterTail₀
  simp only [List.flatten_cons, List.flatten_nil, List.append_nil, StableHlo.after_cons, StableHlo.after_nil]
  rw [StableHlo.reshape_result', StableHlo.unary_result']
  have := Pipeline.withArrays_arr spec0 (launch0.win.arr_inj) c (V0 m c) (fun w => (dats m 0 c).arrAt w cfg0.N) (1 : Fin 2)
  exact congrArg (fun x => shapeCast S4x32 (transpose S4x2x16 [1, 0, 2] x transposes_S2x4x16_S4x2x16_1_0_2) shapeCasts_S4x2x16_S4x32) this

/-- Every element of the result is the first column of the greatest score of its row. -/
theorem result_first (c : Dev nD) (y : S4x32.Idx) :
    FirstMax (scoreOf (logits m c) (y 0).val (y 1)) (result m c y) := by
  have h1 : (y 1).val < 32 := (y 1).isLt
  let k : S4x2x16.Idx := fun | 0 => y 0 | 1 => (⟨(y 1).val / 16, by omega⟩ : Fin 2) | 2 => (⟨(y 1).val % 16, by omega⟩ : Fin 16)
  let x : S2x4x16.Idx := fun | 0 => (⟨(y 1).val / 16, by omega⟩ : Fin 2) | 1 => y 0 | 2 => (⟨(y 1).val % 16, by omega⟩ : Fin 16)
  rw [result_eq, shapeCast_apply _ _ y k (by
    rw [Shape.rowMajor_val_two, Shape.rowMajor_val_three]
    change ((y 0).val * 2 + (y 1).val / 16) * 16 + (y 1).val % 16 = (y 0).val * 32 + (y 1).val
    omega)]
  have e : transpose S4x2x16 [1, 0, 2] ((dats m 0 c).arrAt (1 : Fin 2) cfg0.N) transposes_S2x4x16_S4x2x16_1_0_2 k
      = (dats m 0 c).arrAt (1 : Fin 2) cfg0.N x :=
    congrArg ((dats m 0 c).arrAt (1 : Fin 2) cfg0.N) (funext fun a => by fin_cases a <;> rfl)
  rw [e]
  exact array_first m c x (y 1) (by
    change (y 1).val = 16 * ((y 1).val / 16) + (y 1).val % 16
    omega)

/-- The kernel runs, ends at that result and leaves its argument. -/
theorem run_result : θ_run defs (onTc (τ := τ) (main (F := Ideal))) ⟨m, fun _ => 0, ρ⟩ (fun r => ∀ c : Dev nD,
    r.2.mem ((c.tc : Thread nD τ).loc main_v2) = result m c
      ∧ r.2.mem ((c.tc : Thread nD τ).loc main_arg0) = m ((c.tc : Thread nD τ).loc main_arg0)) :=
  (θ_run defs _ _).mono (fun _ h c => ⟨(h.1 c).2 main_v2 (Pipeline.mem_restRefs_of main_v2 rfl (by decide)),
    ((h.1 c).1 0).trans (((dats m 0 c).arrAt_in 0 rfl _).trans (V_main_arg0 m c))⟩) (run_main m ρ)

end Cert.KernelIdeal.Block

end
-- ==== Proof.Line.lean ====
/- Straight lines of array operations in which every operation writes a buffer of its own, later than all it reads: at
   the end each buffer holds its operation's value of the buffers it reads, as these are at the end. -/
module

public import proofs.«01_k».proof.Proof.Gen.ReferenceIdeal
public import Idealize.ShloMosaic.Lib.StableHlo.Run
public import Idealize.ShloMosaic.Lib.Pipeline.Frame

@[expose] public section

noncomputable section

namespace Cert.ReferenceIdeal.Line

open Cert.ReferenceIdeal Cert.ReferenceIdeal.Gen
open Idealize.ShloMosaic Idealize.ShloMosaic.TcCoe Idealize.SL.Sem Idealize.ShloMosaic.StableHlo

variable {F : FTy → Type} [FloatOps F]

/-- An array operation: what it reads, what it writes, and the function between. -/
inductive Op (F : FTy → Type) [FloatOps F] : Type
  | nul {T : BufTy} (y : TRef sig T) (v : T.Contents (Elt F))
  | un {X T : BufTy} (x : TRef sig X) (y : TRef sig T) (f : X.Contents (Elt F) → T.Contents (Elt F))
  | bin {A B T : BufTy} (a : TRef sig A) (b : TRef sig B) (y : TRef sig T)
      (f : A.Contents (Elt F) → B.Contents (Elt F) → T.Contents (Elt F))
  | ter {A B C T : BufTy} (a : TRef sig A) (b : TRef sig B) (c : TRef sig C) (y : TRef sig T)
      (f : A.Contents (Elt F) → B.Contents (Elt F) → C.Contents (Elt F) → T.Contents (Elt F))
  | quat {A B C D T : BufTy} (a : TRef sig A) (b : TRef sig B) (c : TRef sig C) (d : TRef sig D) (y : TRef sig T)
      (f : A.Contents (Elt F) → B.Contents (Elt F) → C.Contents (Elt F) → D.Contents (Elt F) → T.Contents (Elt F))
  | shp {X T : BufTy} (x : TRef sig X) (y : TRef sig T) (he : X.elt = T.elt) (hn : X.shape.ShapeCasts T.shape)

namespace Op

/-- The operation as the program has it. -/
def hlo : Op F → HloOp τ sig (Elt F)
  | nul y v => TRef.nullary y v
  | un x y f => TRef.unary x y f
  | bin a b y f => TRef.binary a b y f
  | ter a b c y f => TRef.ternary a b c y f
  | quat a b c d y f => TRef.quaternary a b c d y f
  | shp x y he hn => TRef.reshape x y he hn

/-- The number of a buffer. -/
abbrev num {T : BufTy} (x : TRef sig T) : Nat := x.ref.idx.val

/-- The number of the buffer written. -/
def dst : Op F → Nat
  | nul y _ => num y
  | un _ y _ => num y
  | bin _ _ y _ => num y
  | ter _ _ _ y _ => num y
  | quat _ _ _ _ y _ => num y
  | shp _ y _ _ => num y

/-- Every buffer read has a number below `n`. -/
def below (n : Nat) : Op F → Bool
  | nul _ _ => true
  | un x _ _ => Nat.blt (num x) n
  | bin a b _ _ => Nat.blt (num a) n && Nat.blt (num b) n
  | ter a b c _ _ => Nat.blt (num a) n && (Nat.blt (num b) n && Nat.blt (num c) n)
  | quat a b c d _ _ => Nat.blt (num a) n && (Nat.blt (num b) n && (Nat.blt (num c) n && Nat.blt (num d) n))
  | shp x _ _ _ => Nat.blt (num x) n

end Op

/-- What a buffer holds. -/
abbrev val {T : BufTy} (V : Valuation τ sig (Elt F)) (x : TRef sig T) : T.Contents (Elt F) :=
  x.ofBuf (V (Proc.devRef .tc x.ref))

/-- The buffer written holds the operation's value of the buffers read. -/
def Op.Holds (V : Valuation τ sig (Elt F)) : Op F → Prop
  | .nul y v => val V y = v
  | .un x y f => val V y = f (val V x)
  | .bin a b y f => val V y = f (val V a) (val V b)
  | .ter a b c y f => val V y = f (val V a) (val V b) (val V c)
  | .quat a b c d y f => val V y = f (val V a) (val V b) (val V c) (val V d)
  | .shp x y he hn => val V y = fun i => he ▸ shapeCast (α := Elt F _) _ (val V x) hn i

/-- From buffer `n` on, each operation writes the next buffer and reads earlier ones. -/
def ordered : Nat → List (Op F) → Bool
  | _, [] => true
  | n, op :: l => (Nat.beq op.dst n && op.below n) && ordered (n + 1) l

/-- The list of the program's operations. -/
abbrev hlos (l : List (Op F)) : List (HloOp τ sig (Elt F)) := l.map Op.hlo

/-- An operation writes its one buffer. -/
theorem hlo_keeps (op : Op F) (V : Valuation τ sig (Elt F)) {T : BufTy} (x : TRef sig T) (h : Op.num x ≠ op.dst) :
    val (op.hlo.result V) x = val V x := by
  have hne : ∀ {T' : BufTy} (y : TRef sig T'), Op.num x ≠ Op.num y → x.ref ≠ y.ref := fun y h e => h (by
    unfold Op.num; rw [e])
  unfold val
  congr 1
  cases op with
  | nul y v => simp only [Op.hlo, TRef.nullary]; exact nullary_result_ne (h := hne y h) ..
  | un a y f => simp only [Op.hlo, TRef.unary]; exact unary_result_ne (h := hne y h) ..
  | bin a b y f => simp only [Op.hlo, TRef.binary]; exact binary_result_ne (h := hne y h) ..
  | ter a b c y f => simp only [Op.hlo, TRef.ternary]; exact ternary_result_ne (h := hne y h) ..
  | quat a b c d y f => simp only [Op.hlo, TRef.quaternary]; exact quaternary_result_ne (h := hne y h) ..
  | shp a y he hn => simp only [Op.hlo, TRef.reshape]; exact reshape_result_ne (h := hne y h) ..

/-- A line from buffer `n` on leaves the earlier buffers. -/
theorem line_keeps {T : BufTy} (x : TRef sig T) : ∀ (l : List (Op F)) (n : Nat) (V : Valuation τ sig (Elt F)),
    ordered n l = true → Op.num x < n → val (after (hlos l) V) x = val V x
  | [], _, _, _, _ => rfl
  | op :: l, n, V, h, hx => by
    simp only [ordered, Bool.and_eq_true] at h
    have hd : op.dst = n := Nat.eq_of_beq_eq_true h.1.1
    exact (line_keeps x l (n + 1) (op.hlo.result V) h.2 (by omega)).trans (hlo_keeps op V x (by omega))

/-- After an operation reading earlier buffers and a line from the next buffer on, the operation holds. -/
theorem first_holds (op : Op F) (l : List (Op F)) (n : Nat) (V : Valuation τ sig (Elt F)) (hd : op.dst = n)
    (hb : op.below n = true) (h : ordered (n + 1) l = true) : op.Holds (after (hlos l) (op.hlo.result V)) := by
  have hr : ∀ {T : BufTy} (x : TRef sig T), Nat.blt (Op.num x) n = true →
      val (after (hlos l) (op.hlo.result V)) x = val V x := fun x hx => by
    have hx : Op.num x < n := Nat.le_of_ble_eq_true hx
    exact (line_keeps x l (n + 1) _ h (by omega)).trans (hlo_keeps op V x (by omega))
  have hw : ∀ {T : BufTy} (y : TRef sig T), Op.num y = n →
      val (after (hlos l) (op.hlo.result V)) y = val (op.hlo.result V) y := fun y hy =>
    line_keeps y l (n + 1) _ h (by omega)
  cases op with
  | nul y v =>
    simp only [Op.Holds]
    rw [hw y hd]
    simp only [val, Op.hlo, TRef.nullary]
    rw [nullary_result, TRef.ofBuf_toBuf]
  | un x y f =>
    simp only [Op.below] at hb
    simp only [Op.Holds]
    rw [hw y hd, hr x hb]
    simp only [val, Op.hlo, TRef.unary]
    rw [unary_result, TRef.ofBuf_toBuf]
  | bin a b y f =>
    simp only [Op.below, Bool.and_eq_true] at hb
    simp only [Op.Holds]
    rw [hw y hd, hr a hb.1, hr b hb.2]
    simp only [val, Op.hlo, TRef.binary]
    rw [binary_result, TRef.ofBuf_toBuf]
  | ter a b c y f =>
    simp only [Op.below, Bool.and_eq_true] at hb
    simp only [Op.Holds]
    rw [hw y hd, hr a hb.1, hr b hb.2.1, hr c hb.2.2]
    simp only [val, Op.hlo, TRef.ternary]
    rw [ternary_result, TRef.ofBuf_toBuf]
  | quat a b c d y f =>
    simp only [Op.below, Bool.and_eq_true] at hb
    simp only [Op.Holds]
    rw [hw y hd, hr a hb.1, hr b hb.2.1, hr c hb.2.2.1, hr d hb.2.2.2]
    simp only [val, Op.hlo, TRef.quaternary]
    rw [quaternary_result, TRef.ofBuf_toBuf]
  | shp x y he hn =>
    simp only [Op.below] at hb
    simp only [Op.Holds]
    rw [hw y hd, hr x hb]
    obtain ⟨xr, rfl, _, _⟩ := x
    obtain ⟨yr, rfl, _, _⟩ := y
    simp only [val, Op.hlo, TRef.reshape]; exact reshape_result ..

/-- After a line in order every operation of it holds. -/
theorem line_holds : ∀ (l : List (Op F)) (n : Nat) (V : Valuation τ sig (Elt F)), ordered n l = true →
    ∀ op ∈ l, op.Holds (after (hlos l) V)
  | [], _, _, _, _, h => nomatch h
  | op :: l, n, V, h, o, ho => by
    simp only [ordered, Bool.and_eq_true] at h
    rcases List.mem_cons.mp ho with rfl | ho
    · exact first_holds o l n V (Nat.eq_of_beq_eq_true h.1.1) h.1.2 h.2
    · exact line_holds l (n + 1) (op.hlo.result V) h.2 o ho

/-- Every operation touches the core's own arrays, and determines what it writes. -/
theorem hlos_sub (l : List (Op F)) : (hlos l).Forall fun op => op.bufs ⊆ tcRefs τ sig :=
  List.forall_iff_forall_mem.mpr fun op h => by
    obtain ⟨o, _, rfl⟩ := List.mem_map.mp h
    cases o with
    | nul y v => simp only [Op.hlo, TRef.nullary]; exact nullary_bufs_sub ..
    | un a y f => simp only [Op.hlo, TRef.unary]; exact unary_bufs_sub ..
    | bin a b y f => simp only [Op.hlo, TRef.binary]; exact binary_bufs_sub ..
    | ter a b c y f => simp only [Op.hlo, TRef.ternary]; exact ternary_bufs_sub ..
    | quat a b c d y f => simp only [Op.hlo, TRef.quaternary]; exact quaternary_bufs_sub ..
    | shp a y he hn => simp only [Op.hlo, TRef.reshape]; exact reshape_bufs_sub ..

/-- No operation leaves a buffer undetermined. -/
theorem hlos_fresh (l : List (Op F)) : ∀ op ∈ hlos l, op.fresh = ∅ := fun op h => by
  obtain ⟨o, _, rfl⟩ := List.mem_map.mp h
  cases o <;> rfl

end Cert.ReferenceIdeal.Line

end
-- ==== Proof.Lists.lean ====
/- The reference as one straight line: its operations in program order, a round and a key injection of its two ciphers
   each as a list of its own. -/
module

public import proofs.«01_k».proof.Proof.Line

@[expose] public section

noncomputable section

namespace Cert.ReferenceIdeal.Line

open Cert.ReferenceIdeal Cert.ReferenceIdeal.Gen
open Idealize.ShloMosaic Idealize.ShloMosaic.TcCoe Idealize.SL.Sem Idealize.ShloMosaic.StableHlo

variable {F : FTy → Type} [FloatOps F]

/-- A reference to words of a shape. -/
abbrev W (S : Shape) : Type := TRef sig ⟨S, .i32⟩
/-- What such a buffer holds. -/
abbrev C (F : FTy → Type) [FloatOps F] (S : Shape) : Type := (⟨S, .i32⟩ : BufTy).Contents (Elt F)

/-- A word at each draw. -/
abbrev onesA : C F S_ → C F S4x1 := broadcastInDim S4x1 ![] bcast_S_S4x1
/-- A word at each draw, row and column. -/
abbrev onesB : C F S_ → C F S4x32x1000000 := broadcastInDim S4x32x1000000 ![] bcast_S_S4x32x1000000
/-- A draw's word at each of its rows and columns. -/
abbrev keysB : C F S4x1x1 → C F S4x32x1000000 :=
  broadcastInDim S4x32x1000000 ![0, 1, 2] bcast_S4x1x1_S4x32x1000000_0_1_2

/-- A round of a cipher: the sum of the two words, and the second rotated by `n` against it. -/
def roundOps {S : Shape} (bc : C F S_ → C F S) (n m : BitVec 32) (a b s : W S) (c : W S_) (d e : W S) (c' : W S_)
    (d' e' o x : W S) : List (Op F) :=
  [.bin a b s addi, .nul c (constantI S_ 32 n), .un c d bc, .bin b d e Host.shli, .nul c' (constantI S_ 32 m),
    .un c' d' bc, .bin b d' e' Host.shrui, .bin e e' o ori, .bin s o x xori]

/-- A key injection: a key word added to each word, and the count `n` to the second. -/
def injectOps {K S : Shape} (bk : C F K → C F S) (bc : C F S_ → C F S) (n : BitVec 32) (k l : W K) (x y d x' e y' : W S)
    (c : W S_) (f z : W S) : List (Op F) :=
  [.un k d bk, .bin x d x' addi, .un l e bk, .bin y e y' addi, .nul c (constantI S_ 32 n), .un c f bc, .bin y' f z addi]

/-- Its parity word and first additions. -/
def cipherAHead (arg0 arg1 : W S_) (arg2 arg3 : W S4x1) (φ : fn_threefry2x32.Bufs) : List (Op F) :=
  [.bin arg0 arg1 φ.v0 xori,
    .nul φ.c (constantI S_ 32 466688986#32),
    .bin φ.v0 φ.c φ.v1 xori,
    .un arg0 φ.v2 (broadcastInDim S4x1 ![] bcast_S_S4x1),
    .bin arg2 φ.v2 φ.v3 addi,
    .un arg1 φ.v4 (broadcastInDim S4x1 ![] bcast_S_S4x1),
    .bin arg3 φ.v4 φ.v5 addi]

/-- The cipher that folds the draws' numbers into the key. -/
def cipherA (arg0 arg1 : W S_) (arg2 arg3 : W S4x1) (φ : fn_threefry2x32.Bufs) : List (Op F) :=
  cipherAHead arg0 arg1 arg2 arg3 φ ++ (roundOps onesA 13#32 19#32 φ.v3 φ.v5 φ.v6 φ.c_0 φ.v7 φ.v8 φ.c_1 φ.v9 φ.v10 φ.v11 φ.v12 ++ (
  roundOps onesA 15#32 17#32 φ.v6 φ.v12 φ.v13 φ.c_2 φ.v14 φ.v15 φ.c_3 φ.v16 φ.v17 φ.v18 φ.v19 ++ (
  roundOps onesA 26#32 6#32 φ.v13 φ.v19 φ.v20 φ.c_4 φ.v21 φ.v22 φ.c_5 φ.v23 φ.v24 φ.v25 φ.v26 ++ (
  roundOps onesA 6#32 26#32 φ.v20 φ.v26 φ.v27 φ.c_6 φ.v28 φ.v29 φ.c_7 φ.v30 φ.v31 φ.v32 φ.v33 ++ (
  injectOps onesA onesA 1#32 arg1 φ.v1 φ.v27 φ.v33 φ.v34 φ.v35 φ.v36 φ.v37 φ.c_8 φ.v38 φ.v39 ++ (
  roundOps onesA 17#32 15#32 φ.v35 φ.v39 φ.v40 φ.c_9 φ.v41 φ.v42 φ.c_10 φ.v43 φ.v44 φ.v45 φ.v46 ++ (
  roundOps onesA 29#32 3#32 φ.v40 φ.v46 φ.v47 φ.c_11 φ.v48 φ.v49 φ.c_12 φ.v50 φ.v51 φ.v52 φ.v53 ++ (
  roundOps onesA 16#32 16#32 φ.v47 φ.v53 φ.v54 φ.c_13 φ.v55 φ.v56 φ.c_14 φ.v57 φ.v58 φ.v59 φ.v60 ++ (
  roundOps onesA 24#32 8#32 φ.v54 φ.v60 φ.v61 φ.c_15 φ.v62 φ.v63 φ.c_16 φ.v64 φ.v65 φ.v66 φ.v67 ++ (
  injectOps onesA onesA 2#32 φ.v1 arg0 φ.v61 φ.v67 φ.v68 φ.v69 φ.v70 φ.v71 φ.c_17 φ.v72 φ.v73 ++ (
  roundOps onesA 13#32 19#32 φ.v69 φ.v73 φ.v74 φ.c_18 φ.v75 φ.v76 φ.c_19 φ.v77 φ.v78 φ.v79 φ.v80 ++ (
  roundOps onesA 15#32 17#32 φ.v74 φ.v80 φ.v81 φ.c_20 φ.v82 φ.v83 φ.c_21 φ.v84 φ.v85 φ.v86 φ.v87 ++ (
  roundOps onesA 26#32 6#32 φ.v81 φ.v87 φ.v88 φ.c_22 φ.v89 φ.v90 φ.c_23 φ.v91 φ.v92 φ.v93 φ.v94 ++ (
  roundOps onesA 6#32 26#32 φ.v88 φ.v94 φ.v95 φ.c_24 φ.v96 φ.v97 φ.c_25 φ.v98 φ.v99 φ.v100 φ.v101 ++ (
  injectOps onesA onesA 3#32 arg0 arg1 φ.v95 φ.v101 φ.v102 φ.v103 φ.v104 φ.v105 φ.c_26 φ.v106 φ.v107 ++ (
  roundOps onesA 17#32 15#32 φ.v103 φ.v107 φ.v108 φ.c_27 φ.v109 φ.v110 φ.c_28 φ.v111 φ.v112 φ.v113 φ.v114 ++ (
  roundOps onesA 29#32 3#32 φ.v108 φ.v114 φ.v115 φ.c_29 φ.v116 φ.v117 φ.c_30 φ.v118 φ.v119 φ.v120 φ.v121 ++ (
  roundOps onesA 16#32 16#32 φ.v115 φ.v121 φ.v122 φ.c_31 φ.v123 φ.v124 φ.c_32 φ.v125 φ.v126 φ.v127 φ.v128 ++ (
  roundOps onesA 24#32 8#32 φ.v122 φ.v128 φ.v129 φ.c_33 φ.v130 φ.v131 φ.c_34 φ.v132 φ.v133 φ.v134 φ.v135 ++ (
  injectOps onesA onesA 4#32 arg1 φ.v1 φ.v129 φ.v135 φ.v136 φ.v137 φ.v138 φ.v139 φ.c_35 φ.v140 φ.v141 ++ (
  roundOps onesA 13#32 19#32 φ.v137 φ.v141 φ.v142 φ.c_36 φ.v143 φ.v144 φ.c_37 φ.v145 φ.v146 φ.v147 φ.v148 ++ (
  roundOps onesA 15#32 17#32 φ.v142 φ.v148 φ.v149 φ.c_38 φ.v150 φ.v151 φ.c_39 φ.v152 φ.v153 φ.v154 φ.v155 ++ (
  roundOps onesA 26#32 6#32 φ.v149 φ.v155 φ.v156 φ.c_40 φ.v157 φ.v158 φ.c_41 φ.v159 φ.v160 φ.v161 φ.v162 ++ (
  roundOps onesA 6#32 26#32 φ.v156 φ.v162 φ.v163 φ.c_42 φ.v164 φ.v165 φ.c_43 φ.v166 φ.v167 φ.v168 φ.v169 ++ (
  injectOps onesA onesA 5#32 φ.v1 arg0 φ.v163 φ.v169 φ.v170 φ.v171 φ.v172 φ.v173 φ.c_44 φ.v174 φ.v175)))))))))))))))))))))))))

/-- Its parity word and first additions. -/
def cipherBHead (arg0 arg1 : W S4x1x1) (arg2 arg3 : W S1x32x1000000) (φ : fn_threefry2x32_0.Bufs) : List (Op F) :=
  [.bin arg0 arg1 φ.v0 xori,
    .nul φ.c (constantI S_ 32 466688986#32),
    .un φ.c φ.v1 (broadcastInDim S4x1x1 ![] bcast_S_S4x1x1),
    .bin φ.v0 φ.v1 φ.v2 xori,
    .un arg2 φ.v3 (broadcastInDim S4x32x1000000 ![0, 1, 2] bcast_S1x32x1000000_S4x32x1000000_0_1_2),
    .un arg0 φ.v4 (broadcastInDim S4x32x1000000 ![0, 1, 2] bcast_S4x1x1_S4x32x1000000_0_1_2),
    .bin φ.v3 φ.v4 φ.v5 addi,
    .un arg3 φ.v6 (broadcastInDim S4x32x1000000 ![0, 1, 2] bcast_S1x32x1000000_S4x32x1000000_0_1_2),
    .un arg1 φ.v7 (broadcastInDim S4x32x1000000 ![0, 1, 2] bcast_S4x1x1_S4x32x1000000_0_1_2),
    .bin φ.v6 φ.v7 φ.v8 addi]

/-- The cipher that gives the random words. -/
def cipherB (arg0 arg1 : W S4x1x1) (arg2 arg3 : W S1x32x1000000) (φ : fn_threefry2x32_0.Bufs) : List (Op F) :=
  cipherBHead arg0 arg1 arg2 arg3 φ ++ (roundOps onesB 13#32 19#32 φ.v5 φ.v8 φ.v9 φ.c_0 φ.v10 φ.v11 φ.c_1 φ.v12 φ.v13 φ.v14 φ.v15 ++ (
  roundOps onesB 15#32 17#32 φ.v9 φ.v15 φ.v16 φ.c_2 φ.v17 φ.v18 φ.c_3 φ.v19 φ.v20 φ.v21 φ.v22 ++ (
  roundOps onesB 26#32 6#32 φ.v16 φ.v22 φ.v23 φ.c_4 φ.v24 φ.v25 φ.c_5 φ.v26 φ.v27 φ.v28 φ.v29 ++ (
  roundOps onesB 6#32 26#32 φ.v23 φ.v29 φ.v30 φ.c_6 φ.v31 φ.v32 φ.c_7 φ.v33 φ.v34 φ.v35 φ.v36 ++ (
  injectOps keysB onesB 1#32 arg1 φ.v2 φ.v30 φ.v36 φ.v37 φ.v38 φ.v39 φ.v40 φ.c_8 φ.v41 φ.v42 ++ (
  roundOps onesB 17#32 15#32 φ.v38 φ.v42 φ.v43 φ.c_9 φ.v44 φ.v45 φ.c_10 φ.v46 φ.v47 φ.v48 φ.v49 ++ (
  roundOps onesB 29#32 3#32 φ.v43 φ.v49 φ.v50 φ.c_11 φ.v51 φ.v52 φ.c_12 φ.v53 φ.v54 φ.v55 φ.v56 ++ (
  roundOps onesB 16#32 16#32 φ.v50 φ.v56 φ.v57 φ.c_13 φ.v58 φ.v59 φ.c_14 φ.v60 φ.v61 φ.v62 φ.v63 ++ (
  roundOps onesB 24#32 8#32 φ.v57 φ.v63 φ.v64 φ.c_15 φ.v65 φ.v66 φ.c_16 φ.v67 φ.v68 φ.v69 φ.v70 ++ (
  injectOps keysB onesB 2#32 φ.v2 arg0 φ.v64 φ.v70 φ.v71 φ.v72 φ.v73 φ.v74 φ.c_17 φ.v75 φ.v76 ++ (
  roundOps onesB 13#32 19#32 φ.v72 φ.v76 φ.v77 φ.c_18 φ.v78 φ.v79 φ.c_19 φ.v80 φ.v81 φ.v82 φ.v83 ++ (
  roundOps onesB 15#32 17#32 φ.v77 φ.v83 φ.v84 φ.c_20 φ.v85 φ.v86 φ.c_21 φ.v87 φ.v88 φ.v89 φ.v90 ++ (
  roundOps onesB 26#32 6#32 φ.v84 φ.v90 φ.v91 φ.c_22 φ.v92 φ.v93 φ.c_23 φ.v94 φ.v95 φ.v96 φ.v97 ++ (
  roundOps onesB 6#32 26#32 φ.v91 φ.v97 φ.v98 φ.c_24 φ.v99 φ.v100 φ.c_25 φ.v101 φ.v102 φ.v103 φ.v104 ++ (
  injectOps keysB onesB 3#32 arg0 arg1 φ.v98 φ.v104 φ.v105 φ.v106 φ.v107 φ.v108 φ.c_26 φ.v109 φ.v110 ++ (
  roundOps onesB 17#32 15#32 φ.v106 φ.v110 φ.v111 φ.c_27 φ.v112 φ.v113 φ.c_28 φ.v114 φ.v115 φ.v116 φ.v117 ++ (
  roundOps onesB 29#32 3#32 φ.v111 φ.v117 φ.v118 φ.c_29 φ.v119 φ.v120 φ.c_30 φ.v121 φ.v122 φ.v123 φ.v124 ++ (
  roundOps onesB 16#32 16#32 φ.v118 φ.v124 φ.v125 φ.c_31 φ.v126 φ.v127 φ.c_32 φ.v128 φ.v129 φ.v130 φ.v131 ++ (
  roundOps onesB 24#32 8#32 φ.v125 φ.v131 φ.v132 φ.c_33 φ.v133 φ.v134 φ.c_34 φ.v135 φ.v136 φ.v137 φ.v138 ++ (
  injectOps keysB onesB 4#32 arg1 φ.v2 φ.v132 φ.v138 φ.v139 φ.v140 φ.v141 φ.v142 φ.c_35 φ.v143 φ.v144 ++ (
  roundOps onesB 13#32 19#32 φ.v140 φ.v144 φ.v145 φ.c_36 φ.v146 φ.v147 φ.c_37 φ.v148 φ.v149 φ.v150 φ.v151 ++ (
  roundOps onesB 15#32 17#32 φ.v145 φ.v151 φ.v152 φ.c_38 φ.v153 φ.v154 φ.c_39 φ.v155 φ.v156 φ.v157 φ.v158 ++ (
  roundOps onesB 26#32 6#32 φ.v152 φ.v158 φ.v159 φ.c_40 φ.v160 φ.v161 φ.c_41 φ.v162 φ.v163 φ.v164 φ.v165 ++ (
  roundOps onesB 6#32 26#32 φ.v159 φ.v165 φ.v166 φ.c_42 φ.v167 φ.v168 φ.c_43 φ.v169 φ.v170 φ.v171 φ.v172 ++ (
  injectOps keysB onesB 5#32 φ.v2 arg0 φ.v166 φ.v172 φ.v173 φ.v174 φ.v175 φ.v176 φ.c_44 φ.v177 φ.v178)))))))))))))))))))))))))

/-- What comes before the folding cipher. -/
def foldHead (arg0 : W S2) (arg1 : W S4) (φ : fn_threefry_fold_in.Bufs) : List (Op F) :=
  [.nul φ.c (constantI S_ 32 32#32),
    .un φ.c φ.v0 (broadcastInDim S4 ![] bcast_S_S4),
    .bin arg1 φ.v0 φ.v1 Host.shrui,
    .un φ.v1 φ.v2 (broadcastInDim S4x1 ![0] bcast_S4_S4x1_0),
    .nul φ.c_0 (constantI S_ 32 4294967295#32),
    .un φ.c_0 φ.v3 (broadcastInDim S4 ![] bcast_S_S4),
    .bin arg1 φ.v3 φ.v4 andi,
    .un φ.v4 φ.v5 (broadcastInDim S4x1 ![0] bcast_S4_S4x1_0),
    .bin φ.v2 φ.v5 φ.v6 (fun a b => concatenate S4x2 1 [⟨S4x1, a⟩, ⟨S4x1, b⟩] concatenates_S4x1_S4x1_S4x2_d1),
    .un arg0 φ.v7 (extractStridedSlice S1 ![0] · slices_S2_S1_0),
    .shp φ.v7 φ.v8 (rfl : (.i32 : EltTy) = .i32) shapeCasts_S1_S_,
    .un arg0 φ.v9 (extractStridedSlice S1 ![1] · slices_S2_S1_1),
    .shp φ.v9 φ.v10 (rfl : (.i32 : EltTy) = .i32) shapeCasts_S1_S_,
    .un φ.v6 φ.v11 (extractStridedSlice S4x1 ![0, 0] · slices_S4x2_S4x1_0_0),
    .un φ.v6 φ.v12 (extractStridedSlice S4x1 ![0, 1] · slices_S4x2_S4x1_0_1)]

/-- What comes after it. -/
def foldTail (φ : fn_threefry_fold_in.Bufs) : List (Op F) :=
  [.bin φ.call0.v171 φ.call0.v175 φ.v14 (fun a b => concatenate S4x2 1 [⟨S4x1, a⟩, ⟨S4x1, b⟩] concatenates_S4x1_S4x1_S4x2_d1)]

/-- The draws' keys. -/
def foldOps (arg0 : W S2) (arg1 : W S4) (φ : fn_threefry_fold_in.Bufs) : List (Op F) :=
  foldHead arg0 arg1 φ ++ (cipherA φ.v8 φ.v10 φ.v11 φ.v12 φ.call0 ++ foldTail φ)

/-- The choice between two values. -/
def whereOps (arg0 : TRef sig ⟨S4x32x1000000, .i1⟩) (arg1 : TRef sig ⟨S_, .f32⟩) (arg2 : TRef sig ⟨S4x32x1000000, .f32⟩) (φ : fn_where.Bufs) : List (Op F) :=
  [.un arg1 φ.v0 (broadcastInDim S4x32x1000000 ![] bcast_S_S4x32x1000000),
    .ter arg0 φ.v0 arg2 φ.v1 select]

/-- The greatest entry of each row and its first column. -/
def argmaxOps (arg0 : TRef sig ⟨S4x32x1000000, .f32⟩) (φ : fn_argmax.Bufs) : List (Op F) :=
  [.nul φ.v0 (iotaInDim S4x32x1000000 32 2),
    .nul φ.cst (constant S_ .f32 0xFF800000#32),
    .nul φ.c (constantI S_ 32 0#32),
    .quat arg0 φ.v0 φ.cst φ.c φ.v1_0 (fun x y u v j => (Host.argReduce reducer_argmax_f32_i32 x y u v reducesTo_S4x32x1000000_S4x32_d2 h_S_ j).1),
    .quat arg0 φ.v0 φ.cst φ.c φ.v1_1 (fun x y u v j => (Host.argReduce reducer_argmax_f32_i32 x y u v reducesTo_S4x32x1000000_S4x32_d2 h_S_ j).2)]

/-- The seed's two words and the draws' numbers. -/
def mainOps0 : List (Op F) :=
  [.nul (.of main_v0) (iotaInDim S4 32 0),
    .nul (.of main_c) (constantI S_ 32 42#32),
    .nul (.of main_c_0) (constantI S_ 32 32#32),
    .bin (.of main_c) (.of main_c_0) (.of main_v1) (Host.shrui : (⟨S_, .i32⟩ : BufTy).Contents (Elt F) → (⟨S_, .i32⟩ : BufTy).Contents (Elt F) → (⟨S_, .i32⟩ : BufTy).Contents (Elt F)),
    .un (.of main_v1) (.of main_v2) (id : (⟨S_, .i32⟩ : BufTy).Contents (Elt F) → (⟨S_, .i32⟩ : BufTy).Contents (Elt F)),
    .un (.of main_v2) (.of main_v3) (broadcastInDim S1 ![] bcast_S_S1 : (⟨S_, .i32⟩ : BufTy).Contents (Elt F) → (⟨S1, .i32⟩ : BufTy).Contents (Elt F)),
    .nul (.of main_c_1) (constantI S_ 32 4294967295#32),
    .bin (.of main_c) (.of main_c_1) (.of main_v4) (andi : (⟨S_, .i32⟩ : BufTy).Contents (Elt F) → (⟨S_, .i32⟩ : BufTy).Contents (Elt F) → (⟨S_, .i32⟩ : BufTy).Contents (Elt F)),
    .un (.of main_v4) (.of main_v5) (id : (⟨S_, .i32⟩ : BufTy).Contents (Elt F) → (⟨S_, .i32⟩ : BufTy).Contents (Elt F)),
    .un (.of main_v5) (.of main_v6) (broadcastInDim S1 ![] bcast_S_S1 : (⟨S_, .i32⟩ : BufTy).Contents (Elt F) → (⟨S1, .i32⟩ : BufTy).Contents (Elt F)),
    .bin (.of main_v3) (.of main_v6) (.of main_v7) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))]

/-- The keys' words and the places' words. -/
def mainOps1 : List (Op F) :=
  [.un (.of main_v8) (.of main_v9) ((extractStridedSlice S4x1 ![0, 0] · slices_S4x2_S4x1_0_0) : (⟨S4x2, .i32⟩ : BufTy).Contents (Elt F) → (⟨S4x1, .i32⟩ : BufTy).Contents (Elt F)),
    .shp (.of main_v9) (.of main_v10) (rfl : (.i32 : EltTy) = .i32) shapeCasts_S4x1_S4,
    .un (.of main_v8) (.of main_v11) ((extractStridedSlice S4x1 ![0, 1] · slices_S4x2_S4x1_0_1) : (⟨S4x2, .i32⟩ : BufTy).Contents (Elt F) → (⟨S4x1, .i32⟩ : BufTy).Contents (Elt F)),
    .shp (.of main_v11) (.of main_v12) (rfl : (.i32 : EltTy) = .i32) shapeCasts_S4x1_S4,
    .nul (.of main_v13) (iotaInDim S32x1000000 64 0),
    .nul (.of main_v14) (iotaInDim S32x1000000 64 1),
    .nul (.of main_c_2) (constantI S_ 64 1000000#64),
    .un (.of main_c_2) (.of main_v15) (broadcastInDim S32x1000000 ![] bcast_S_S32x1000000 : (⟨S_, .i64⟩ : BufTy).Contents (Elt F) → (⟨S32x1000000, .i64⟩ : BufTy).Contents (Elt F)),
    .bin (.of main_v15) (.of main_v13) (.of main_v16) (muli : (⟨S32x1000000, .i64⟩ : BufTy).Contents (Elt F) → (⟨S32x1000000, .i64⟩ : BufTy).Contents (Elt F) → (⟨S32x1000000, .i64⟩ : BufTy).Contents (Elt F)),
    .nul (.of main_c_3) (constantI S_ 64 1#64),
    .un (.of main_c_3) (.of main_v17) (broadcastInDim S32x1000000 ![] bcast_S_S32x1000000 : (⟨S_, .i64⟩ : BufTy).Contents (Elt F) → (⟨S32x1000000, .i64⟩ : BufTy).Contents (Elt F)),
    .bin (.of main_v17) (.of main_v14) (.of main_v18) (muli : (⟨S32x1000000, .i64⟩ : BufTy).Contents (Elt F) → (⟨S32x1000000, .i64⟩ : BufTy).Contents (Elt F) → (⟨S32x1000000, .i64⟩ : BufTy).Contents (Elt F)),
    .bin (.of main_v16) (.of main_v18) (.of main_v19) (addi : (⟨S32x1000000, .i64⟩ : BufTy).Contents (Elt F) → (⟨S32x1000000, .i64⟩ : BufTy).Contents (Elt F) → (⟨S32x1000000, .i64⟩ : BufTy).Contents (Elt F)),
    .nul (.of main_c_4) (constantI S_ 64 32#64),
    .un (.of main_c_4) (.of main_v20) (broadcastInDim S32x1000000 ![] bcast_S_S32x1000000 : (⟨S_, .i64⟩ : BufTy).Contents (Elt F) → (⟨S32x1000000, .i64⟩ : BufTy).Contents (Elt F)),
    .bin (.of main_v19) (.of main_v20) (.of main_v21) (Host.shrui : (⟨S32x1000000, .i64⟩ : BufTy).Contents (Elt F) → (⟨S32x1000000, .i64⟩ : BufTy).Contents (Elt F) → (⟨S32x1000000, .i64⟩ : BufTy).Contents (Elt F)),
    .un (.of main_v19) (.of main_v22) ((trunci 32 · natLt_32_64) : (⟨S32x1000000, .i64⟩ : BufTy).Contents (Elt F) → (⟨S32x1000000, .i32⟩ : BufTy).Contents (Elt F)),
    .un (.of main_v21) (.of main_v23) ((trunci 32 · natLt_32_64) : (⟨S32x1000000, .i64⟩ : BufTy).Contents (Elt F) → (⟨S32x1000000, .i32⟩ : BufTy).Contents (Elt F)),
    .un (.of main_v23) (.of main_v24) (broadcastInDim S1x32x1000000 ![1, 2] bcast_S32x1000000_S1x32x1000000_1_2 : (⟨S32x1000000, .i32⟩ : BufTy).Contents (Elt F) → (⟨S1x32x1000000, .i32⟩ : BufTy).Contents (Elt F)),
    .un (.of main_v22) (.of main_v25) (broadcastInDim S1x32x1000000 ![1, 2] bcast_S32x1000000_S1x32x1000000_1_2 : (⟨S32x1000000, .i32⟩ : BufTy).Contents (Elt F) → (⟨S1x32x1000000, .i32⟩ : BufTy).Contents (Elt F)),
    .un (.of main_v10) (.of main_v26) (broadcastInDim S4x1x1 ![0] bcast_S4_S4x1x1_0 : (⟨S4, .i32⟩ : BufTy).Contents (Elt F) → (⟨S4x1x1, .i32⟩ : BufTy).Contents (Elt F)),
    .un (.of main_v12) (.of main_v27) (broadcastInDim S4x1x1 ![0] bcast_S4_S4x1x1_0 : (⟨S4, .i32⟩ : BufTy).Contents (Elt F) → (⟨S4x1x1, .i32⟩ : BufTy).Contents (Elt F))]

/-- The uniform draws but for the choice at zero. -/
def mainOps2 : List (Op F) :=
  [.bin (.of main_v28_0) (.of main_v28_1) (.of main_v29) (xori : (⟨S4x32x1000000, .i32⟩ : BufTy).Contents (Elt F) → (⟨S4x32x1000000, .i32⟩ : BufTy).Contents (Elt F) → (⟨S4x32x1000000, .i32⟩ : BufTy).Contents (Elt F)),
    .nul (.of main_c_5) (constantI S_ 32 9#32),
    .un (.of main_c_5) (.of main_v30) (broadcastInDim S4x32x1000000 ![] bcast_S_S4x32x1000000 : (⟨S_, .i32⟩ : BufTy).Contents (Elt F) → (⟨S4x32x1000000, .i32⟩ : BufTy).Contents (Elt F)),
    .bin (.of main_v29) (.of main_v30) (.of main_v31) (Host.shrui : (⟨S4x32x1000000, .i32⟩ : BufTy).Contents (Elt F) → (⟨S4x32x1000000, .i32⟩ : BufTy).Contents (Elt F) → (⟨S4x32x1000000, .i32⟩ : BufTy).Contents (Elt F)),
    .nul (.of main_c_6) (constantI S_ 32 0#32),
    .un (.of main_c_6) (.of main_v32) (broadcastInDim S4x32x1000000 ![] bcast_S_S4x32x1000000 : (⟨S_, .i32⟩ : BufTy).Contents (Elt F) → (⟨S4x32x1000000, .i32⟩ : BufTy).Contents (Elt F)),
    .bin (.of main_v31) (.of main_v32) (.of main_v33) (cmpi .eq : (⟨S4x32x1000000, .i32⟩ : BufTy).Contents (Elt F) → (⟨S4x32x1000000, .i32⟩ : BufTy).Contents (Elt F) → (⟨S4x32x1000000, .i1⟩ : BufTy).Contents (Elt F)),
    .un (.of main_v31) (.of main_v34) (uitofp .f32 : (⟨S4x32x1000000, .i32⟩ : BufTy).Contents (Elt F) → (⟨S4x32x1000000, .f32⟩ : BufTy).Contents (Elt F)),
    .nul (.of main_cst) (constant S_ .f32 0x34000000#32),
    .un (.of main_cst) (.of main_v35) (broadcastInDim S4x32x1000000 ![] bcast_S_S4x32x1000000 : (⟨S_, .f32⟩ : BufTy).Contents (Elt F) → (⟨S4x32x1000000, .f32⟩ : BufTy).Contents (Elt F)),
    .bin (.of main_v34) (.of main_v35) (.of main_v36) (mulf : (⟨S4x32x1000000, .f32⟩ : BufTy).Contents (Elt F) → (⟨S4x32x1000000, .f32⟩ : BufTy).Contents (Elt F) → (⟨S4x32x1000000, .f32⟩ : BufTy).Contents (Elt F)),
    .nul (.of main_cst_7) (constant S_ .f32 0x00800000#32)]

/-- The noise, and the scores. -/
def mainOps3 : List (Op F) :=
  [.un (.of main_v37) (.of main_v38) (Host.log : (⟨S4x32x1000000, .f32⟩ : BufTy).Contents (Elt F) → (⟨S4x32x1000000, .f32⟩ : BufTy).Contents (Elt F)),
    .un (.of main_v38) (.of main_v39) (Host.negf : (⟨S4x32x1000000, .f32⟩ : BufTy).Contents (Elt F) → (⟨S4x32x1000000, .f32⟩ : BufTy).Contents (Elt F)),
    .un (.of main_v39) (.of main_v40) (Host.log : (⟨S4x32x1000000, .f32⟩ : BufTy).Contents (Elt F) → (⟨S4x32x1000000, .f32⟩ : BufTy).Contents (Elt F)),
    .un (.of main_v40) (.of main_v41) (Host.negf : (⟨S4x32x1000000, .f32⟩ : BufTy).Contents (Elt F) → (⟨S4x32x1000000, .f32⟩ : BufTy).Contents (Elt F)),
    .un (.of main_arg0) (.of main_v42) (broadcastInDim S1x32x1000000 ![1, 2] bcast_S32x1000000_S1x32x1000000_1_2 : (⟨S32x1000000, .f32⟩ : BufTy).Contents (Elt F) → (⟨S1x32x1000000, .f32⟩ : BufTy).Contents (Elt F)),
    .un (.of main_v42) (.of main_v43) (broadcastInDim S4x32x1000000 ![0, 1, 2] bcast_S1x32x1000000_S4x32x1000000_0_1_2 : (⟨S1x32x1000000, .f32⟩ : BufTy).Contents (Elt F) → (⟨S4x32x1000000, .f32⟩ : BufTy).Contents (Elt F)),
    .bin (.of main_v43) (.of main_v41) (.of main_v44) (addf : (⟨S4x32x1000000, .f32⟩ : BufTy).Contents (Elt F) → (⟨S4x32x1000000, .f32⟩ : BufTy).Contents (Elt F) → (⟨S4x32x1000000, .f32⟩ : BufTy).Contents (Elt F))]

/-- The whole reference. -/
def refOps : List (Op F) :=
  mainOps0 ++ (foldOps (.of main_v7) (.of main_v0) main_call0 ++ (mainOps1 ++ (cipherB (.of main_v26) (.of main_v27) (.of main_v24) (.of main_v25) main_call1 ++ (mainOps2 ++ (whereOps (.of main_v33) (.of main_cst_7) (.of main_v36) main_call2 ++ (mainOps3 ++ argmaxOps (.of main_v44) main_call3))))))

set_option maxRecDepth 16384
set_option maxHeartbeats 4000000

/-- Statements 1 to 60 of it, as printed. -/
theorem cipherA_part0 (arg0 arg1 : W S_) (arg2 arg3 : W S4x1) (φ : fn_threefry2x32.Bufs) :
    fn_threefry2x32.body_part0 (F := F) arg0 arg1 arg2 arg3 φ = seq (hlos (((cipherA arg0 arg1 arg2 arg3 φ).drop 0).take 60)) := rfl

/-- Statements 61 to 120 of it, as printed. -/
theorem cipherA_part1 (arg0 arg1 : W S_) (arg2 arg3 : W S4x1) (φ : fn_threefry2x32.Bufs) :
    fn_threefry2x32.body_part1 (F := F) arg0 arg1 arg2 arg3 φ = seq (hlos (((cipherA arg0 arg1 arg2 arg3 φ).drop 60).take 60)) := rfl

/-- Statements 121 to 180 of it, as printed. -/
theorem cipherA_part2 (arg0 arg1 : W S_) (arg2 arg3 : W S4x1) (φ : fn_threefry2x32.Bufs) :
    fn_threefry2x32.body_part2 (F := F) arg0 arg1 arg2 arg3 φ = seq (hlos (((cipherA arg0 arg1 arg2 arg3 φ).drop 120).take 60)) := rfl

/-- Statements 181 to 222 of it, as printed. -/
theorem cipherA_part3 (arg0 arg1 : W S_) (arg2 arg3 : W S4x1) (φ : fn_threefry2x32.Bufs) :
    fn_threefry2x32.body_part3 (F := F) arg0 arg1 arg2 arg3 φ = seq (hlos (((cipherA arg0 arg1 arg2 arg3 φ).drop 180).take 42)) := rfl

/-- It is its list, as printed. -/
theorem cipherA_body (arg0 arg1 : W S_) (arg2 arg3 : W S4x1) (φ : fn_threefry2x32.Bufs) :
    fn_threefry2x32.body (F := F) arg0 arg1 arg2 arg3 φ = seq (hlos (cipherA arg0 arg1 arg2 arg3 φ)) := by
  rw [show (cipherA arg0 arg1 arg2 arg3 φ : List (Op F)) = ((cipherA arg0 arg1 arg2 arg3 φ).drop 0).take 60 ++ (((cipherA arg0 arg1 arg2 arg3 φ).drop 60).take 60 ++
    (((cipherA arg0 arg1 arg2 arg3 φ).drop 120).take 60 ++ ((cipherA arg0 arg1 arg2 arg3 φ).drop 180).take 42)) from rfl]
  simp only [hlos, List.map_append, seq_append]
  unfold fn_threefry2x32.body
  rw [cipherA_part0, cipherA_part1, cipherA_part2, cipherA_part3]

/-- Statements 1 to 60 of it, as printed. -/
theorem cipherB_part0 (arg0 arg1 : W S4x1x1) (arg2 arg3 : W S1x32x1000000) (φ : fn_threefry2x32_0.Bufs) :
    fn_threefry2x32_0.body_part0 (F := F) arg0 arg1 arg2 arg3 φ = seq (hlos (((cipherB arg0 arg1 arg2 arg3 φ).drop 0).take 60)) := rfl

/-- Statements 61 to 120 of it, as printed. -/
theorem cipherB_part1 (arg0 arg1 : W S4x1x1) (arg2 arg3 : W S1x32x1000000) (φ : fn_threefry2x32_0.Bufs) :
    fn_threefry2x32_0.body_part1 (F := F) arg0 arg1 arg2 arg3 φ = seq (hlos (((cipherB arg0 arg1 arg2 arg3 φ).drop 60).take 60)) := rfl

/-- Statements 121 to 180 of it, as printed. -/
theorem cipherB_part2 (arg0 arg1 : W S4x1x1) (arg2 arg3 : W S1x32x1000000) (φ : fn_threefry2x32_0.Bufs) :
    fn_threefry2x32_0.body_part2 (F := F) arg0 arg1 arg2 arg3 φ = seq (hlos (((cipherB arg0 arg1 arg2 arg3 φ).drop 120).take 60)) := rfl

/-- Statements 181 to 225 of it, as printed. -/
theorem cipherB_part3 (arg0 arg1 : W S4x1x1) (arg2 arg3 : W S1x32x1000000) (φ : fn_threefry2x32_0.Bufs) :
    fn_threefry2x32_0.body_part3 (F := F) arg0 arg1 arg2 arg3 φ = seq (hlos (((cipherB arg0 arg1 arg2 arg3 φ).drop 180).take 45)) := rfl

/-- It is its list, as printed. -/
theorem cipherB_body (arg0 arg1 : W S4x1x1) (arg2 arg3 : W S1x32x1000000) (φ : fn_threefry2x32_0.Bufs) :
    fn_threefry2x32_0.body (F := F) arg0 arg1 arg2 arg3 φ = seq (hlos (cipherB arg0 arg1 arg2 arg3 φ)) := by
  rw [show (cipherB arg0 arg1 arg2 arg3 φ : List (Op F)) = ((cipherB arg0 arg1 arg2 arg3 φ).drop 0).take 60 ++ (((cipherB arg0 arg1 arg2 arg3 φ).drop 60).take 60 ++
    (((cipherB arg0 arg1 arg2 arg3 φ).drop 120).take 60 ++ ((cipherB arg0 arg1 arg2 arg3 φ).drop 180).take 45)) from rfl]
  simp only [hlos, List.map_append, seq_append]
  unfold fn_threefry2x32_0.body
  rw [cipherB_part0, cipherB_part1, cipherB_part2, cipherB_part3]

/-- The keys' function is its list. -/
theorem fold_body (arg0 : W S2) (arg1 : W S4) (φ : fn_threefry_fold_in.Bufs) :
    fn_threefry_fold_in.body (F := F) arg0 arg1 φ = seq (hlos (foldOps arg0 arg1 φ)) := by
  unfold fn_threefry_fold_in.body foldOps
  rw [cipherA_body]
  simp only [hlos, List.map_append, seq_append]
  rfl

end Cert.ReferenceIdeal.Line

end
-- ==== Proof.RefWords.lean ====
/- The reference's ciphers word by word. -/
module

public import proofs.«01_k».proof.Proof.Lists
public import proofs.«01_k».proof.Proof.Spec

@[expose] public section

noncomputable section

namespace Cert.ReferenceIdeal.Line

open Cert.ReferenceIdeal Cert.ReferenceIdeal.Gen
open Idealize.ShloMosaic Idealize.ShloMosaic.TcCoe Idealize.SL.Sem Idealize.ShloMosaic.StableHlo
open Cert.Gumbel (U)

variable {F : FTy → Type} [FloatOps F]

/-- The word a buffer holds at a place. -/
abbrev word {S : Shape} (V : Valuation τ sig (Elt F)) (x : W S) (i : S.Idx) : U := (val V x : S.Idx → U) i

/-- The pair of words two buffers hold at a place. -/
abbrev pair {S : Shape} (V : Valuation τ sig (Elt F)) (x y : W S) (i : S.Idx) : U × U := (word V x i, word V y i)

/-- A round leaves the mixed pair. -/
theorem round_holds {S : Shape} (V : Valuation τ sig (Elt F)) (bc : C F S_ → C F S)
    (hbc : ∀ (n : U) (i : S.Idx), (bc (constantI S_ 32 n) : S.Idx → U) i = n) {n m : U} (hn : n.toNat < 32)
    (hm : m.toNat < 32) {a b s d e d' e' o x : W S} {c c' : W S_}
    (h : ∀ op ∈ roundOps bc n m a b s c d e c' d' e' o x, op.Holds V) (i : S.Idx) :
    pair V s x i = Gumbel.mix n m (pair V a b i) := by
  simp only [roundOps, List.forall_mem_cons, Op.Holds] at h
  obtain ⟨h1, h2, h3, h4, h5, h6, h7, h8, h9, -⟩ := h
  have es : word V s i = word V a i + word V b i := congrFun h1 i
  have ed : word V d i = n := by rw [word, h3, h2]; exact hbc n i
  have ed' : word V d' i = m := by rw [word, h6, h5]; exact hbc m i
  have ee : word V e i = word V b i <<< n := by
    have : word V e i = IntOp.shli .host (word V b i) (word V d i) := congrFun h4 i
    rw [this, ed]; exact if_pos hn
  have ee' : word V e' i = word V b i >>> m := by
    have : word V e' i = IntOp.shrui .host (word V b i) (word V d' i) := congrFun h7 i
    rw [this, ed']; exact if_pos hm
  have eo : word V o i = word V e i ||| word V e' i := congrFun h8 i
  have ex : word V x i = word V s i ^^^ word V o i := congrFun h9 i
  refine Prod.ext es ?_
  show word V x i = _
  rw [ex, eo, ee, ee', es, BitVec.xor_comm]
  rfl

/-- A key injection adds the key words and the count. -/
theorem inject_holds {K S : Shape} (V : Valuation τ sig (Elt F)) (bk : C F K → C F S) (bc : C F S_ → C F S)
    (hbc : ∀ (n : U) (i : S.Idx), (bc (constantI S_ 32 n) : S.Idx → U) i = n) {n : U} {k l : W K}
    {x y d x' e y' f z : W S} {c : W S_}
    (h : ∀ op ∈ injectOps bk bc n k l x y d x' e y' c f z, op.Holds V) (i : S.Idx) :
    pair V x' z i = Gumbel.inject ((bk (val V k) : S.Idx → U) i) ((bk (val V l) : S.Idx → U) i) n (pair V x y i) := by
  simp only [injectOps, List.forall_mem_cons, Op.Holds] at h
  obtain ⟨h1, h2, h3, h4, h5, h6, h7, -⟩ := h
  have e1 : word V d i = (bk (val V k) : S.Idx → U) i := congrFun h1 i
  have e2 : word V x' i = word V x i + word V d i := congrFun h2 i
  have e3 : word V e i = (bk (val V l) : S.Idx → U) i := congrFun h3 i
  have e4 : word V y' i = word V y i + word V e i := congrFun h4 i
  have e5 : word V f i = n := by rw [word, h6, h5]; exact hbc n i
  have e7 : word V z i = word V y' i + word V f i := congrFun h7 i
  refine Prod.ext ?_ ?_
  · show word V x' i = _
    rw [e2, e1]; rfl
  · show word V z i = _
    rw [e7, e4, e5, e3]; rfl

/-- The folding cipher's two words. -/
theorem cipherA_holds (V : Valuation τ sig (Elt F)) {arg0 arg1 : W S_} {arg2 arg3 : W S4x1} {φ : fn_threefry2x32.Bufs}
    (h : ∀ op ∈ cipherA arg0 arg1 arg2 arg3 φ, op.Holds V) (i : S4x1.Idx) {a b : U}
    (ha : (onesA (val V arg0) : S4x1.Idx → U) i = a) (hb : (onesA (val V arg1) : S4x1.Idx → U) i = b) :
    pair V φ.v171 φ.v175 i
      = Gumbel.crypt a b (a ^^^ b ^^^ 466688986#32) (word V arg2 i + a, word V arg3 i + b) := by
  simp only [cipherA, List.forall_mem_append] at h
  obtain ⟨hh, h1, h2, h3, h4, h5, h6, h7, h8, h9, h10, h11, h12, h13, h14, h15, h16, h17, h18, h19, h20, h21, h22, h23, h24, h25⟩ := h
  simp only [cipherAHead, List.forall_mem_cons, Op.Holds] at hh
  obtain ⟨g1, g2, g3, g4, g5, g6, g7, -⟩ := hh
  have hc : (onesA (val V φ.v1) : S4x1.Idx → U) i = a ^^^ b ^^^ 466688986#32 := by
    rw [g3, g2, g1, ← ha, ← hb]; rfl
  have hs : pair V φ.v3 φ.v5 i = (word V arg2 i + a, word V arg3 i + b) := by
    refine Prod.ext ?_ ?_
    · show word V φ.v3 i = _
      rw [word, g5, g4, ← ha]; rfl
    · show word V φ.v5 i = _
      rw [word, g7, g6, ← hb]; rfl
  have k : ∀ (n : U) (j : S4x1.Idx), (onesA (F := F) (constantI S_ 32 n) : S4x1.Idx → U) j = n := fun _ _ => rfl
  rw [inject_holds V onesA onesA k h25 i, round_holds V onesA k (n := _) (by decide) (by decide) h24 i, round_holds V onesA k (n := _) (by decide) (by decide) h23 i, round_holds V onesA k (n := _) (by decide) (by decide) h22 i, round_holds V onesA k (n := _) (by decide) (by decide) h21 i, inject_holds V onesA onesA k h20 i, round_holds V onesA k (n := _) (by decide) (by decide) h19 i, round_holds V onesA k (n := _) (by decide) (by decide) h18 i, round_holds V onesA k (n := _) (by decide) (by decide) h17 i, round_holds V onesA k (n := _) (by decide) (by decide) h16 i, inject_holds V onesA onesA k h15 i, round_holds V onesA k (n := _) (by decide) (by decide) h14 i, round_holds V onesA k (n := _) (by decide) (by decide) h13 i, round_holds V onesA k (n := _) (by decide) (by decide) h12 i, round_holds V onesA k (n := _) (by decide) (by decide) h11 i, inject_holds V onesA onesA k h10 i, round_holds V onesA k (n := _) (by decide) (by decide) h9 i, round_holds V onesA k (n := _) (by decide) (by decide) h8 i, round_holds V onesA k (n := _) (by decide) (by decide) h7 i, round_holds V onesA k (n := _) (by decide) (by decide) h6 i, inject_holds V onesA onesA k h5 i, round_holds V onesA k (n := _) (by decide) (by decide) h4 i, round_holds V onesA k (n := _) (by decide) (by decide) h3 i, round_holds V onesA k (n := _) (by decide) (by decide) h2 i, round_holds V onesA k (n := _) (by decide) (by decide) h1 i, hs, ha, hb, hc]
  rfl

/-- The random words' cipher's two words. -/
theorem cipherB_holds (V : Valuation τ sig (Elt F)) {arg0 arg1 : W S4x1x1} {arg2 arg3 : W S1x32x1000000}
    {φ : fn_threefry2x32_0.Bufs} (h : ∀ op ∈ cipherB arg0 arg1 arg2 arg3 φ, op.Holds V) (i : S4x32x1000000.Idx) {a b : U}
    (ha : (keysB (val V arg0) : S4x32x1000000.Idx → U) i = a) (hb : (keysB (val V arg1) : S4x32x1000000.Idx → U) i = b) :
    pair V φ.v174 φ.v178 i
      = Gumbel.crypt a b (a ^^^ b ^^^ 466688986#32)
          ((broadcastInDim S4x32x1000000 ![0, 1, 2] bcast_S1x32x1000000_S4x32x1000000_0_1_2 (val V arg2) : S4x32x1000000.Idx → U) i + a,
            (broadcastInDim S4x32x1000000 ![0, 1, 2] bcast_S1x32x1000000_S4x32x1000000_0_1_2 (val V arg3) : S4x32x1000000.Idx → U) i + b) := by
  simp only [cipherB, List.forall_mem_append] at h
  obtain ⟨hh, h1, h2, h3, h4, h5, h6, h7, h8, h9, h10, h11, h12, h13, h14, h15, h16, h17, h18, h19, h20, h21, h22, h23, h24, h25⟩ := h
  simp only [cipherBHead, List.forall_mem_cons, Op.Holds] at hh
  obtain ⟨g1, g2, g3, g4, g5, g6, g7, g8, g9, g10, -⟩ := hh
  have hc : (keysB (val V φ.v2) : S4x32x1000000.Idx → U) i = a ^^^ b ^^^ 466688986#32 := by
    rw [g4, g3, g2, g1, ← ha, ← hb]; rfl
  have hs : pair V φ.v5 φ.v8 i = ((broadcastInDim S4x32x1000000 ![0, 1, 2] bcast_S1x32x1000000_S4x32x1000000_0_1_2 (val V arg2) : S4x32x1000000.Idx → U) i + a,
            (broadcastInDim S4x32x1000000 ![0, 1, 2] bcast_S1x32x1000000_S4x32x1000000_0_1_2 (val V arg3) : S4x32x1000000.Idx → U) i + b) := by
    refine Prod.ext ?_ ?_
    · show word V φ.v5 i = _
      rw [word, g7, g6, g5, ← ha]; rfl
    · show word V φ.v8 i = _
      rw [word, g10, g9, g8, ← hb]; rfl
  have k : ∀ (n : U) (j : S4x32x1000000.Idx), (onesB (F := F) (constantI S_ 32 n) : S4x32x1000000.Idx → U) j = n := fun _ _ => rfl
  rw [inject_holds V keysB onesB k h25 i, round_holds V onesB k (n := _) (by decide) (by decide) h24 i, round_holds V onesB k (n := _) (by decide) (by decide) h23 i, round_holds V onesB k (n := _) (by decide) (by decide) h22 i, round_holds V onesB k (n := _) (by decide) (by decide) h21 i, inject_holds V keysB onesB k h20 i, round_holds V onesB k (n := _) (by decide) (by decide) h19 i, round_holds V onesB k (n := _) (by decide) (by decide) h18 i, round_holds V onesB k (n := _) (by decide) (by decide) h17 i, round_holds V onesB k (n := _) (by decide) (by decide) h16 i, inject_holds V keysB onesB k h15 i, round_holds V onesB k (n := _) (by decide) (by decide) h14 i, round_holds V onesB k (n := _) (by decide) (by decide) h13 i, round_holds V onesB k (n := _) (by decide) (by decide) h12 i, round_holds V onesB k (n := _) (by decide) (by decide) h11 i, inject_holds V keysB onesB k h10 i, round_holds V onesB k (n := _) (by decide) (by decide) h9 i, round_holds V onesB k (n := _) (by decide) (by decide) h8 i, round_holds V onesB k (n := _) (by decide) (by decide) h7 i, round_holds V onesB k (n := _) (by decide) (by decide) h6 i, inject_holds V keysB onesB k h5 i, round_holds V onesB k (n := _) (by decide) (by decide) h4 i, round_holds V onesB k (n := _) (by decide) (by decide) h3 i, round_holds V onesB k (n := _) (by decide) (by decide) h2 i, round_holds V onesB k (n := _) (by decide) (by decide) h1 i, hs, ha, hb, hc]
  rfl

end Cert.ReferenceIdeal.Line

end
-- ==== Proof.RefKeys.lean ====
/- The reference's keys and its random words. -/
module

public import proofs.«01_k».proof.Proof.RefWords
public import Idealize.ShloMosaic.Lib.Pipeline.Value
public import Idealize.ShloMosaic.Lib.Pointwise.Reshape

@[expose] public section

noncomputable section

namespace Cert.ReferenceIdeal.Line

open Cert.ReferenceIdeal Cert.ReferenceIdeal.Gen
open Idealize.ShloMosaic Idealize.ShloMosaic.TcCoe Idealize.SL.Sem Idealize.ShloMosaic.StableHlo
open Cert.Gumbel (U)

variable {F : FTy → Type} [FloatOps F]

/-- The one place of a scalar. -/
def nowhere : S_.Idx := fun a => a.elim0
/-- The one place of a single word. -/
def pos1 : S1.Idx := fun | 0 => (0 : Fin 1)
/-- A place of a pair of words. -/
def pos2 (n : Fin 2) : S2.Idx := fun | 0 => n
/-- A draw's place. -/
def pos4 (d : Fin 4) : S4.Idx := fun | 0 => d
/-- A draw's place in a column. -/
def pos41 (d : Fin 4) : S4x1.Idx := fun | 0 => d | 1 => (0 : Fin 1)
/-- A draw's place in a pair of columns. -/
def pos42 (d : Fin 4) (n : Fin 2) : S4x2.Idx := fun | 0 => d | 1 => n

/-- The pair of words made of two. -/
theorem joined (x y : S1.Idx → U) :
    concatenate S2 0 [⟨S1, x⟩, ⟨S1, y⟩] concatenates_S1_S1_S2_d0 (pos2 0) = x pos1
      ∧ concatenate S2 0 [⟨S1, x⟩, ⟨S1, y⟩] concatenates_S1_S1_S2_d0 (pos2 1) = y pos1 :=
  ⟨concatenate_pair_apply_left 0 x y _ (pos2 0) rfl pos1 (fun b => by fin_cases b; rfl),
    concatenate_pair_apply_right 0 x y _ (pos2 1) rfl rfl pos1 (fun b h => by fin_cases b; exact absurd rfl h) rfl⟩

/-- The pair of columns made of two. -/
theorem joined4 (x y : S4x1.Idx → U) (d : Fin 4) :
    concatenate S4x2 1 [⟨S4x1, x⟩, ⟨S4x1, y⟩] concatenates_S4x1_S4x1_S4x2_d1 (pos42 d 0) = x (pos41 d)
      ∧ concatenate S4x2 1 [⟨S4x1, x⟩, ⟨S4x1, y⟩] concatenates_S4x1_S4x1_S4x2_d1 (pos42 d 1) = y (pos41 d) :=
  ⟨concatenate_pair_apply_left 1 x y _ (pos42 d 0) rfl (pos41 d) (fun b => by fin_cases b <;> rfl),
    concatenate_pair_apply_right 1 x y _ (pos42 d 1) rfl rfl (pos41 d)
      (fun b h => by fin_cases b; · rfl
                     · exact absurd rfl h) rfl⟩

/-- The first column of a pair of columns, and the second. -/
theorem columns (x : S4x2.Idx → U) (d : Fin 4) :
    extractStridedSlice S4x1 ![0, 0] x slices_S4x2_S4x1_0_0 (pos41 d) = x (pos42 d 0)
      ∧ extractStridedSlice S4x1 ![0, 1] x slices_S4x2_S4x1_0_1 (pos41 d) = x (pos42 d 1) :=
  ⟨congrArg x (funext fun a => by fin_cases a <;> exact Fin.ext (by simp [pos41, pos42])),
    congrArg x (funext fun a => by fin_cases a <;> exact Fin.ext (by simp [pos41, pos42]))⟩

/-- The first word of a pair, and the second. -/
theorem halves (x : S2.Idx → U) :
    extractStridedSlice S1 ![0] x slices_S2_S1_0 pos1 = x (pos2 0)
      ∧ extractStridedSlice S1 ![1] x slices_S2_S1_1 pos1 = x (pos2 1) :=
  ⟨congrArg x (funext fun a => by fin_cases a; rfl), congrArg x (funext fun a => by fin_cases a; rfl)⟩

/-- A single entry as a scalar. -/
theorem scalar_of (x : S1.Idx → U) (i : S_.Idx) : shapeCast S_ x shapeCasts_S1_S_ i = x pos1 :=
  shapeCast_apply x _ _ _ (by rw [rowMajor_val1, rowMajor_val0]; rfl)

/-- A column as a list. -/
theorem list_of (x : S4x1.Idx → U) (d : Fin 4) : shapeCast S4 x shapeCasts_S4x1_S4 (pos4 d) = x (pos41 d) :=
  shapeCast_apply x _ _ _ (by rw [rowMajor_val1, rowMajor_val2 _ 1 rfl]; simp [pos4, pos41])

/-- A shift by the width leaves nothing. -/
theorem shrui_width (x : U) : IntOp.shrui .host x 32#32 = 0#32 := by
  unfold IntOp.shrui IntOp.cornerWord; simp

/-- The words of the draws' keys. -/
theorem keys_hold (V : Valuation τ sig (Elt F)) (h0 : ∀ op ∈ mainOps0, op.Holds V)
    (h1 : ∀ op ∈ foldOps (.of main_v7) (.of main_v0) main_call0, op.Holds V)
    (h2 : ∀ op ∈ mainOps1, op.Holds V) (d : Fin 4) :
    pair V (.of main_v10) (.of main_v12) (pos4 d) = Gumbel.key (BitVec.ofNat 32 d.val) := by
  simp only [foldOps, List.forall_mem_append] at h1
  obtain ⟨hh, hc, ht⟩ := h1
  simp only [mainOps0, List.forall_mem_cons, Op.Holds] at h0
  obtain ⟨a1, a2, a3, a4, a5, a6, a7, a8, a9, a10, a11, -⟩ := h0
  simp only [foldHead, List.forall_mem_cons, Op.Holds] at hh
  obtain ⟨b1, b2, b3, b4, b5, b6, b7, b8, b9, b10, b11, b12, b13, b14, b15, -⟩ := hh
  simp only [foldTail, List.forall_mem_cons, Op.Holds] at ht
  obtain ⟨t1, -⟩ := ht
  simp only [mainOps1, List.forall_mem_cons, Op.Holds] at h2
  obtain ⟨c1, c2, c3, c4, -⟩ := h2
  -- the seed's words
  have s0 : word V (.of main_v7) (pos2 0) = 0#32 := by
    rw [word, a11]
    refine (joined _ _).1.trans ?_
    rw [a6, a5, a4, a3]
    exact shrui_width 42#32
  have s1 : word V (.of main_v7) (pos2 1) = 42#32 := by
    rw [word, a11]
    refine (joined _ _).2.trans ?_
    rw [a10, a9, a8, a7, a2]
    rfl
  have k0 : (onesA (val V main_call0.v8) : S4x1.Idx → U) (pos41 d) = 0#32 := by
    rw [b11, b10]
    refine (scalar_of _ _).trans ?_
    refine (halves _).1.trans ?_
    exact s0
  have k1 : (onesA (val V main_call0.v10) : S4x1.Idx → U) (pos41 d) = 42#32 := by
    rw [b13, b12]
    refine (scalar_of _ _).trans ?_
    refine (halves _).2.trans ?_
    exact s1
  -- the draw's words
  have w0 : word V main_call0.v11 (pos41 d) = 0#32 := by
    rw [word, b14]
    refine (columns _ d).1.trans ?_
    rw [b9]
    refine (joined4 _ _ d).1.trans ?_
    rw [b4, b3, b2, b1]
    exact shrui_width (word V (.of main_v0) (pos4 d))
  have w1 : word V main_call0.v12 (pos41 d) = BitVec.ofNat 32 d.val := by
    rw [word, b15]
    refine (columns _ d).2.trans ?_
    rw [b9]
    refine (joined4 _ _ d).2.trans ?_
    rw [b8, b7, b6, b5, a1]
    show (BitVec.ofNat 32 d.val) &&& 4294967295#32 = _
    have all : ∀ d : Fin 4, BitVec.ofNat 32 d.val &&& 4294967295#32 = BitVec.ofNat 32 d.val := by decide
    exact all d
  have hp := cipherA_holds V hc (pos41 d) k0 k1
  rw [w0, w1] at hp
  have hv : val V (.of main_v8 : W S4x2) = val V main_call0.v14 := rfl
  refine Prod.ext ?_ ?_
  · show word V (.of main_v10) (pos4 d) = _
    rw [word, c2]
    refine (list_of _ d).trans ?_
    rw [c1]
    refine (columns _ d).1.trans ?_
    rw [hv, t1]
    refine (joined4 _ _ d).1.trans ?_
    exact congrArg Prod.fst hp
  · show word V (.of main_v12) (pos4 d) = _
    rw [word, c4]
    refine (list_of _ d).trans ?_
    rw [c3]
    refine (columns _ d).2.trans ?_
    rw [hv, t1]
    refine (joined4 _ _ d).2.trans ?_
    exact congrArg Prod.snd hp

/-- The place of a draw's score. -/
def pos3 (d : Fin 4) (r : Fin 32) (c : Fin 1000000) : S4x32x1000000.Idx := fun | 0 => d | 1 => r | 2 => c
/-- A place of the array. -/
def posA (r : Fin 32) (c : Fin 1000000) : S32x1000000.Idx := fun | 0 => r | 1 => c
/-- A place of the array under one draw. -/
def posB (r : Fin 32) (c : Fin 1000000) : S1x32x1000000.Idx := fun | 0 => (0 : Fin 1) | 1 => r | 2 => c
/-- A draw's place among single rows and columns. -/
def posK (d : Fin 4) : S4x1x1.Idx := fun | 0 => d | 1 => (0 : Fin 1) | 2 => (0 : Fin 1)

/-- An array taken under each draw. -/
theorem under {α : Type} (x : S32x1000000.Idx → α) (d : Fin 4) (r : Fin 32) (c : Fin 1000000) :
    broadcastInDim S4x32x1000000 ![0, 1, 2] bcast_S1x32x1000000_S4x32x1000000_0_1_2
      (broadcastInDim S1x32x1000000 ![1, 2] bcast_S32x1000000_S1x32x1000000_1_2 x) (pos3 d r c) = x (posA r c) :=
  (broadcastInDim_apply ![0, 1, 2] _ _ (pos3 d r c) (posB r c) (fun a => by fin_cases a <;> rfl)).trans
    (broadcastInDim_apply ![1, 2] _ x (posB r c) (posA r c) (fun a => by fin_cases a <;> rfl))

/-- A draw's word taken at each row and column. -/
theorem spread (x : S4.Idx → U) (d : Fin 4) (r : Fin 32) (c : Fin 1000000) :
    (keysB (F := F) (broadcastInDim S4x1x1 ![0] bcast_S4_S4x1x1_0 x) : S4x32x1000000.Idx → U) (pos3 d r c) = x (pos4 d) :=
  (broadcastInDim_apply ![0, 1, 2] _ _ (pos3 d r c) (posK d) (fun a => by fin_cases a <;> rfl)).trans
    (broadcastInDim_apply (t := S4x1x1) ![0] bcast_S4_S4x1x1_0 x (posK d) (pos4 d) (fun a => by fin_cases a; rfl))

/-- The place's number, as words of 64 bits. -/
theorem number (r : Fin 32) (c : Fin 1000000) :
    1000000#64 * BitVec.ofNat 64 r.val + 1#64 * BitVec.ofNat 64 c.val = BitVec.ofNat 64 (1000000 * r.val + c.val) := by
  apply BitVec.eq_of_toNat_eq
  simp

/-- The random words. -/
theorem words_hold (V : Valuation τ sig (Elt F)) (h0 : ∀ op ∈ mainOps0, op.Holds V)
    (h1 : ∀ op ∈ foldOps (.of main_v7) (.of main_v0) main_call0, op.Holds V)
    (h2 : ∀ op ∈ mainOps1, op.Holds V)
    (h3 : ∀ op ∈ cipherB (.of main_v26) (.of main_v27) (.of main_v24) (.of main_v25) main_call1, op.Holds V)
    (d : Fin 4) (r : Fin 32) (c : Fin 1000000) :
    word V (.of main_v28_0) (pos3 d r c) ^^^ word V (.of main_v28_1) (pos3 d r c)
      = Gumbel.word (BitVec.ofNat 32 d.val) (BitVec.ofNat 32 (1000000 * r.val + c.val)) := by
  have hk := keys_hold V h0 h1 h2 d
  simp only [mainOps1, List.forall_mem_cons, Op.Holds] at h2
  obtain ⟨-, -, -, -, c5, c6, c7, c8, c9, c10, c11, c12, c13, c14, c15, c16, c17, c18, c19, c20, c21, c22, -⟩ := h2
  have k0 : (keysB (val V (.of main_v26 : W S4x1x1)) : S4x32x1000000.Idx → U) (pos3 d r c) = (Gumbel.key (BitVec.ofNat 32 d.val)).1 := by
    rw [c21]
    exact (spread _ d r c).trans (congrArg Prod.fst hk)
  have k1 : (keysB (val V (.of main_v27 : W S4x1x1)) : S4x32x1000000.Idx → U) (pos3 d r c) = (Gumbel.key (BitVec.ofNat 32 d.val)).2 := by
    rw [c22]
    exact (spread _ d r c).trans (congrArg Prod.snd hk)
  have n : (val V (.of main_v19 : TRef sig ⟨S32x1000000, .i64⟩) : S32x1000000.Idx → BitVec 64) (posA r c)
      = BitVec.ofNat 64 (1000000 * r.val + c.val) := by
    rw [c13, c12, c11, c10, c9, c8, c7, c6, c5]
    exact number r c
  have hn : 1000000 * r.val + c.val < 2 ^ 32 := by have := r.isLt; have := c.isLt; omega
  have p0 : (broadcastInDim S4x32x1000000 ![0, 1, 2] bcast_S1x32x1000000_S4x32x1000000_0_1_2
      (val V (.of main_v24 : W S1x32x1000000)) : S4x32x1000000.Idx → U) (pos3 d r c) = 0#32 := by
    rw [c19]
    refine (under _ d r c).trans ?_
    rw [c18, c16, c15, c14]
    show (IntOp.shrui .host ((val V (.of main_v19 : TRef sig ⟨S32x1000000, .i64⟩) : S32x1000000.Idx → BitVec 64) (posA r c)) 32#64).setWidth 32 = _
    rw [n, IntOp.shrui, if_pos (by decide)]
    apply BitVec.eq_of_toNat_eq
    simp only [BitVec.toNat_setWidth, BitVec.toNat_ofNat, BitVec.ushiftRight_eq', BitVec.toNat_ushiftRight, Nat.shiftRight_eq_div_pow]
    rw [Nat.mod_eq_of_lt (by omega : 1000000 * r.val + c.val < 2 ^ 64)]
    have hz : (1000000 * r.val + c.val) / 4294967296 = 0 := Nat.div_eq_of_lt (by omega)
    norm_num [hz]
  have p1 : (broadcastInDim S4x32x1000000 ![0, 1, 2] bcast_S1x32x1000000_S4x32x1000000_0_1_2
      (val V (.of main_v25 : W S1x32x1000000)) : S4x32x1000000.Idx → U) (pos3 d r c) = BitVec.ofNat 32 (1000000 * r.val + c.val) := by
    rw [c20]
    refine (under _ d r c).trans ?_
    rw [c17]
    show ((val V (.of main_v19 : TRef sig ⟨S32x1000000, .i64⟩) : S32x1000000.Idx → BitVec 64) (posA r c)).setWidth 32 = _
    rw [n]
    exact BitVec.setWidth_ofNat_of_le (by decide) _
  have hp := cipherB_holds V h3 (pos3 d r c) k0 k1
  rw [p0, p1, BitVec.zero_add] at hp
  have e0 : word V (.of main_v28_0) (pos3 d r c) = word V main_call1.v174 (pos3 d r c) := rfl
  have e1 : word V (.of main_v28_1) (pos3 d r c) = word V main_call1.v178 (pos3 d r c) := rfl
  rw [e0, e1]
  exact congrArg (fun p : U × U => p.1 ^^^ p.2) hp

end Cert.ReferenceIdeal.Line

end
-- ==== Proof.RefRun.lean ====
/- The reference is one straight line; it runs, and at the end every operation of the line holds of the buffers. -/
module

public import proofs.«01_k».proof.Defs
public import proofs.«01_k».proof.Proof.Lists
public import Idealize.ShloMosaic.Lib.Quiescent

@[expose] public section

set_option maxRecDepth 16384
set_option maxHeartbeats 4000000

noncomputable section

namespace Cert.ReferenceIdeal.Line

open Cert.ReferenceIdeal Cert.ReferenceIdeal.Gen
open Idealize.ShloMosaic Idealize.ShloMosaic.TcCoe Idealize.SL.Sem Idealize.ShloMosaic.StableHlo

variable {F : FTy → Type} [FloatOps F]

/-- The reference is its list. -/
theorem main_ops (c : Dev nD) : main (F := F) c = seq (hlos refOps) := by
  unfold main refOps
  rw [fold_body, cipherB_body]
  simp only [hlos, List.map_append, seq_append, seq_bind_seqK]
  simp only [mainOps0, mainOps1, mainOps2, mainOps3, List.map, seqK]
  rfl

/-- Every operation writes a buffer of its own, after all it reads. -/
theorem ref_ordered : ordered 1 (refOps (F := F)) = true := by
  unfold refOps
  rfl

theorem none_scoped : (Finset.univ.filter fun b : Ref sig .tc => b.isScoped) = ∅ := by decide
theorem no_counter_scoped : (Finset.univ.filter fun s : SemLoc sig => s.isScoped .tc) = ∅ := by decide

/-- What device `c`'s buffers hold once the line has run from the memory `m`. -/
abbrev final (m : (ℓ : Loc nD τ sig) → Buf (Elt F) ℓ) (c : Dev nD) : Valuation τ sig (Elt F) :=
  after (hlos refOps) (launchContents m c)

/-- Every operation of the reference holds at the end. -/
theorem final_holds (m : (ℓ : Loc nD τ sig) → Buf (Elt F) ℓ) (c : Dev nD) : ∀ op ∈ refOps, op.Holds (final m c) :=
  line_holds refOps 1 _ ref_ordered

/-- The argument holds what it held. -/
theorem final_arg (m : (ℓ : Loc nD τ sig) → Buf (Elt F) ℓ) (c : Dev nD) :
    final m c (Proc.devRef .tc main_arg0) = launchContents m c (Proc.devRef .tc main_arg0) :=
  line_keeps (F := F) (TRef.of main_arg0 : TRef sig ⟨S32x1000000, .f32⟩) refOps 1 (launchContents m c) ref_ordered Nat.one_pos

/-- The reference runs; every buffer ends as the line leaves it, and every semaphore reads zero. -/
theorem run_ref (m : (ℓ : Loc nD τ sig) → Buf (Elt F) ℓ) (g : Dev nD → PrngReg) :
    θ_run (defs (F := F)) (onTc (τ := τ) main) ⟨m, fun _ => 0, g⟩ fun r =>
      ((∀ c : Dev nD, ∀ b : Ref sig .tc, r.2.mem ((c.tc : Thread nD τ).loc b) = final m c (Proc.devRef .tc b))
        ∧ r.2.sem = fun _ => 0) :=
  (θ_run (defs (F := F)) _ _).mono (fun r h => ⟨h, sem_eq_zero_of_no_sems rfl r.2⟩)
    (run_seq none_scoped no_counter_scoped defs main (fun _ => hlos refOps) main_ops (fun _ => hlos_sub refOps) m g
      fun _ => hlos_fresh refOps)

/-- The reference runs, and its argument ends unchanged. -/
theorem ref_frame : Cert.quiescent_ReferenceIdeal := fun m g _ =>
  (θ_run (defs (F := Ideal)) _ _).mono (fun _ h => ⟨fun c => (h.1 c main_arg0).trans (final_arg m c), h.2⟩)
    (run_ref (F := Ideal) m g)

end Cert.ReferenceIdeal.Line

end
-- ==== Proof.RefValue.lean ====
/- The reference's result: the first column of the greatest score of each row. -/
module

public import proofs.«01_k».proof.Proof.RefKeys
public import proofs.«01_k».proof.Proof.RefRun
public import proofs.«01_k».proof.Proof.Drawn

@[expose] public section

noncomputable section

namespace Cert.ReferenceIdeal.Line

open Cert.ReferenceIdeal Cert.ReferenceIdeal.Gen
open Idealize.ShloMosaic Idealize.ShloMosaic.TcCoe Idealize.SL.Sem Idealize.ShloMosaic.StableHlo
open Cert.Gumbel (U FirstMax)
open Cert.KernelIdeal.Block (scoreOf foldl_choice)

/-- The first pair has the greater value, or an equal value and no greater column. -/
def Ahead (a b : EReal × U) : Prop := b.1 < a.1 ∨ (b.1 = a.1 ∧ a.2.toInt ≤ b.2.toInt)

/-- Being ahead is transitive. -/
theorem Ahead.trans {a b c : EReal × U} (h : Ahead a b) (h' : Ahead b c) : Ahead a c := by
  rcases h with h | ⟨h, k⟩ <;> rcases h' with h' | ⟨h', k'⟩
  · exact .inl (h'.trans h)
  · exact .inl (h' ▸ h)
  · exact .inl (h ▸ h')
  · exact .inr ⟨h'.trans h, k.trans k'⟩

/-- The reducer gives the one of its two pairs that is ahead. -/
theorem reducer_cases (a b : EReal × U) :
    (reducer_argmax_f32_i32 (F := Ideal) a b = a ∧ Ahead a b) ∨ (reducer_argmax_f32_i32 (F := Ideal) a b = b ∧ Ahead b a) := by
  obtain ⟨a1, a2⟩ := a
  obtain ⟨b1, b2⟩ := b
  have hne : BitVec.ofBool (decide (a1 ≠ a1)) = 0#1 := by simp
  have key : reducer_argmax_f32_i32 (F := Ideal) (a1, a2) (b1, b2)
      = (if BitVec.ofBool (decide (b1 < a1)) ||| BitVec.ofBool (decide (a1 ≠ a1)) = 1#1 then a1 else b1,
        if BitVec.ofBool (decide (b1 < a1)) ||| BitVec.ofBool (decide (a1 ≠ a1))
          ||| (BitVec.ofBool (decide (a1 = b1)) &&& BitVec.ofBool (a2.slt b2)) = 1#1 then a2 else b2) := rfl
  rw [key, hne]
  rcases lt_trichotomy b1 a1 with h | h | h
  · left
    refine ⟨?_, .inl h⟩
    have h' : ¬ a1 = b1 := ne_of_gt h
    simp [h, h']
  · subst h
    by_cases hs : a2.slt b2 = true
    · left
      refine ⟨by simp [hs], .inr ⟨rfl, ?_⟩⟩
      rw [BitVec.slt, decide_eq_true_iff] at hs
      exact hs.le
    · right
      refine ⟨by simp [hs], .inr ⟨rfl, ?_⟩⟩
      rw [BitVec.slt, decide_eq_true_iff] at hs
      exact not_lt.1 hs
  · right
    refine ⟨?_, .inl h⟩
    have h1 : ¬ b1 < a1 := not_lt.2 h.le
    have h2 : ¬ a1 = b1 := ne_of_lt h
    simp [h1, h2]

/-- The places of a draw's row are its columns. -/
theorem row_iff (i : S4x32x1000000.Idx) (y : S4x32.Idx) :
    reducesTo_S4x32x1000000_S4x32_d2.drop i = y ↔ ∃ c, i = pos3 (y 0) (y 1) c := by
  have h0 : (reducesTo_S4x32x1000000_S4x32_d2.drop i 0 : Nat) = i 0 := Shape.ReducesTo.drop_apply_val_of_eq _ i 0 0
  have h1 : (reducesTo_S4x32x1000000_S4x32_d2.drop i 1 : Nat) = i 1 := Shape.ReducesTo.drop_apply_val_of_eq _ i 1 1
  constructor
  · intro e
    refine ⟨i 2, funext fun a => ?_⟩
    rw [e] at h0 h1
    fin_cases a
    · exact Fin.ext h0.symm
    · exact Fin.ext h1.symm
    · rfl
  · rintro ⟨c, rfl⟩
    funext a
    fin_cases a
    · exact Fin.ext h0
    · exact Fin.ext h1

/-- The column the reduction gives for a row is the first of the row's greatest value. -/
theorem argmax_first (x : S4x32x1000000.Idx → EReal) (y : S4x32.Idx) (f : ℕ → EReal)
    (hf : ∀ c : Fin 1000000, x (pos3 (y 0) (y 1) c) = f c.val) :
    FirstMax f (Host.argReduce (F := Ideal) (φ := .f32) reducer_argmax_f32_i32 x (iotaInDim S4x32x1000000 32 2)
      (constant S_ .f32 0xFF800000#32) (constantI S_ 32 0#32) reducesTo_S4x32x1000000_S4x32_d2 h_S_ y).2 := by
  have e0 : Ideal.ofBits .f32 0xFF800000#32 = (⊥ : EReal) := by simp [Ideal.ofBits, Ideal.ieee]
  rw [Ideal.argReduce_eq_reduce2]
  let z : S4x32x1000000.Idx → EReal × U := fun i => (x i, BitVec.ofNat 32 (i 2).val)
  have e1 : Host.reduce2 (reducer_argmax_f32_i32 (F := Ideal)) x (iotaInDim S4x32x1000000 32 2)
      (constant S_ .f32 0xFF800000#32) (constantI S_ 32 0#32) reducesTo_S4x32x1000000_S4x32_d2 h_S_ y
      = (((List.finRange S4x32x1000000.numel).map S4x32x1000000.rowMajor.symm).filter
          fun i => reducesTo_S4x32x1000000_S4x32_d2.drop i = y).foldl (fun r i => reducer_argmax_f32_i32 (F := Ideal) r (z i))
            ((⊥ : EReal), 0#32) := by
    rw [← e0]
    exact Shape.foldl_filter_rowMajor_eq_foldl reducesTo_S4x32x1000000_S4x32_d2.drop (reducer_argmax_f32_i32 (F := Ideal)) _ z y
  rw [e1]
  have hm : ∀ i, i ∈ (((List.finRange S4x32x1000000.numel).map S4x32x1000000.rowMajor.symm).filter
      fun i => reducesTo_S4x32x1000000_S4x32_d2.drop i = y) ↔ ∃ c, i = pos3 (y 0) (y 1) c := fun i => by
    rw [List.mem_filter, decide_eq_true_iff, row_iff]
    exact ⟨fun h => h.2, fun h => ⟨List.mem_map.2 ⟨S4x32x1000000.rowMajor i, List.mem_finRange _, Equiv.symm_apply_apply _ _⟩, h⟩⟩
  have hrefl : ∀ a, Ahead a a := fun _ => .inr ⟨rfl, le_rfl⟩
  obtain ⟨h1, -, h3⟩ := foldl_choice Ahead hrefl (fun _ _ _ => Ahead.trans)
    (reducer_argmax_f32_i32 (F := Ideal)) (fun a b => (reducer_cases a b).imp And.left And.left)
    (fun a b => by rcases reducer_cases a b with ⟨e, _⟩ | ⟨e, h⟩ <;> rw [e]; exacts [hrefl a, h])
    (fun a b => by rcases reducer_cases a b with ⟨e, h⟩ | ⟨e, _⟩ <;> rw [e]; exacts [h, hrefl b]) z
    (((List.finRange S4x32x1000000.numel).map S4x32x1000000.rowMajor.symm).filter
      fun i => reducesTo_S4x32x1000000_S4x32_d2.drop i = y) ((⊥ : EReal), 0#32)
  generalize (((List.finRange S4x32x1000000.numel).map S4x32x1000000.rowMajor.symm).filter
      fun i => reducesTo_S4x32x1000000_S4x32_d2.drop i = y).foldl (fun r i => reducer_argmax_f32_i32 (F := Ideal) r (z i))
            ((⊥ : EReal), 0#32) = R at h1 h3 ⊢
  have hz : ∀ c : Fin 1000000, z (pos3 (y 0) (y 1) c) = (f c.val, BitVec.ofNat 32 c.val) := fun c => Prod.ext (hf c) rfl
  have h4 : ∀ c : Fin 1000000, Ahead R (f c.val, BitVec.ofNat 32 c.val) := fun c => by
    rw [← hz c]
    exact h3 _ ((hm _).2 ⟨c, rfl⟩)
  rcases h1 with h1 | ⟨i, hi, h1⟩
  · have hb : ∀ c < 1000000, f c = ⊥ := fun c hc => by
      rcases h4 ⟨c, hc⟩ with h | ⟨h, -⟩
      · rw [h1] at h
        exact absurd h not_lt_bot
      · exact h.trans (congrArg Prod.fst h1)
    refine ⟨0, by norm_num, congrArg Prod.snd h1, fun c hc => ?_, fun c hc => absurd hc (Nat.not_lt_zero c)⟩
    rw [hb c hc, hb 0 (by norm_num)]
  · obtain ⟨k, rfl⟩ := (hm i).1 hi
    rw [hz k] at h1
    subst h1
    refine ⟨k.val, k.isLt, rfl, fun c hc => ?_, fun c hc => ?_⟩
    · rcases h4 ⟨c, hc⟩ with h | ⟨h, -⟩
      · exact le_of_lt h
      · exact le_of_eq h
    · have hk := k.isLt
      rcases h4 ⟨c, by omega⟩ with h | ⟨-, h⟩
      · exact h
      · change (BitVec.ofNat 32 k.val).toInt ≤ (BitVec.ofNat 32 c).toInt at h
        rw [Gumbel.toInt_small _ (by omega), Gumbel.toInt_small _ (by omega)] at h
        omega

/-- What a buffer of numbers holds. -/
abbrev reals (V : Valuation τ sig (Elt Ideal)) (x : TRef sig ⟨S4x32x1000000, .f32⟩) : S4x32x1000000.Idx → EReal := val V x

/-- The scores the reference compares. -/
theorem scores_hold (V : Valuation τ sig (Elt Ideal)) (h : ∀ op ∈ refOps, op.Holds V) (d : Fin 4) (r : Fin 32)
    (c : Fin 1000000) :
    reals V (.of main_v44) (pos3 d r c)
      = scoreOf (val V (.of main_arg0 : TRef sig ⟨S32x1000000, .f32⟩)) d.val r c.val := by
  simp only [refOps, List.forall_mem_append] at h
  obtain ⟨h0, h1, h2, h3, h4, h5, h6, -⟩ := h
  have hw := words_hold V h0 h1 h2 h3 d r c
  simp only [mainOps2, List.forall_mem_cons, Op.Holds] at h4
  obtain ⟨a1, a2, a3, a4, a5, a6, a7, a8, a9, a10, a11, a12, -⟩ := h4
  simp only [whereOps, List.forall_mem_cons, Op.Holds] at h5
  obtain ⟨b1, b2, -⟩ := h5
  simp only [mainOps3, List.forall_mem_cons, Op.Holds] at h6
  obtain ⟨c1, c2, c3, c4, c5, c6, c7, -⟩ := h6
  obtain ⟨w, ew⟩ : ∃ w, w = Gumbel.word (BitVec.ofNat 32 d.val) (BitVec.ofNat 32 (1000000 * r.val + c.val)) := ⟨_, rfl⟩
  rw [← ew] at hw
  have w31 : word V (.of main_v31) (pos3 d r c) = w >>> 9#32 := by
    rw [word, a4, a3, a2, a1]
    show IntOp.shrui .host (word V (.of main_v28_0) (pos3 d r c) ^^^ word V (.of main_v28_1) (pos3 d r c)) 9#32 = _
    rw [hw, IntOp.shrui, if_pos (by decide)]
  have p : (val V (.of main_v33 : TRef sig ⟨S4x32x1000000, .i1⟩) : S4x32x1000000.Idx → BitVec 1) (pos3 d r c)
      = BitVec.ofBool (w >>> 9#32 == 0#32) := by
    rw [a7, a6, a5, ← w31]
    rfl
  have u36 : reals V (.of main_v36) (pos3 d r c) = (((w >>> 9#32).toNat : ℝ) : EReal) * Ideal.ofBits .f32 0x34000000#32 := by
    rw [reals, a11, a10, a9, a8, ← w31]
    rfl
  have u37 : reals V main_call2.v1 (pos3 d r c) = Gumbel.unif w := by
    rw [reals, b2, b1, a12]
    show (if (val V (.of main_v33 : TRef sig ⟨S4x32x1000000, .i1⟩) : S4x32x1000000.Idx → BitVec 1) (pos3 d r c) = 1#1
      then Ideal.ofBits .f32 0x00800000#32 else reals V (.of main_v36) (pos3 d r c)) = _
    rw [p, u36, Gumbel.unif]
    by_cases hz : w >>> 9#32 = 0#32
    · simp [hz]
    · have hb : (w >>> 9#32 == 0#32) = false := beq_eq_false_iff_ne.2 hz
      rw [hb, if_neg (by decide), if_neg hz]
  have hc : main_call2.v1 = (.of main_v37 : TRef sig ⟨S4x32x1000000, .f32⟩) := rfl
  rw [hc] at u37
  rw [reals, c7, c6, c5, c4, c3, c2, c1]
  have ea := under (val V (.of main_arg0 : TRef sig ⟨S32x1000000, .f32⟩) : S32x1000000.Idx → EReal) d r c
  show broadcastInDim S4x32x1000000 ![0, 1, 2] bcast_S1x32x1000000_S4x32x1000000_0_1_2
      (broadcastInDim S1x32x1000000 ![1, 2] bcast_S32x1000000_S1x32x1000000_1_2
        (val V (.of main_arg0 : TRef sig ⟨S32x1000000, .f32⟩) : S32x1000000.Idx → EReal)) (pos3 d r c)
      + -(Ideal.log (-(Ideal.log (reals V (.of main_v37) (pos3 d r c))))) = _
  rw [ea, u37, scoreOf, dif_pos c.isLt, ← ew]
  refine congrArg₂ (fun a b : EReal => a + b) ?_ rfl
  exact congrArg (val V (.of main_arg0 : TRef sig ⟨S32x1000000, .f32⟩) : S32x1000000.Idx → EReal)
    (funext fun a => by fin_cases a <;> rfl)

/-- Every element of the reference's result is the first column of the greatest score of its row. -/
theorem value_first (V : Valuation τ sig (Elt Ideal)) (h : ∀ op ∈ refOps, op.Holds V) (y : S4x32.Idx) :
    FirstMax (scoreOf (val V (.of main_arg0 : TRef sig ⟨S32x1000000, .f32⟩)) (y 0).val (y 1))
      ((val V (.of main_v45 : W S4x32) : S4x32.Idx → U) y) := by
  have hs := scores_hold V h
  simp only [refOps, List.forall_mem_append] at h
  obtain ⟨-, -, -, -, -, -, -, h7⟩ := h
  simp only [argmaxOps, List.forall_mem_cons, Op.Holds] at h7
  obtain ⟨a1, a2, a3, a4, a5, -⟩ := h7
  have hc : (.of main_v45 : W S4x32) = main_call3.v1_1 := rfl
  rw [hc, a5, a3, a2, a1]
  exact argmax_first (reals V (.of main_v44)) y _ fun c => hs (y 0) (y 1) c

/-- The same of the buffers as the memory has them. -/
theorem result_first (V : Valuation τ sig (Elt Ideal)) (h : ∀ op ∈ refOps, op.Holds V) (A : S32x1000000.Idx → EReal)
    (hA : V (Proc.devRef .tc main_arg0) = A) (y : S4x32.Idx) :
    FirstMax (scoreOf A (y 0).val (y 1)) ((V (Proc.devRef .tc main_v45) : S4x32.Idx → U) y) := by
  subst hA
  exact value_first V h y

end Cert.ReferenceIdeal.Line

end
-- ==== Proof.Equal.lean ====
/- The idealized kernel and the reference end with equal results. -/
module

public import proofs.«01_k».proof.Defs
public import proofs.«01_k».proof.Proof.KResult
public import proofs.«01_k».proof.Proof.RefValue

@[expose] public section

noncomputable section

namespace Cert.Equal

open Idealize.ShloMosaic Idealize.ShloMosaic.TcCoe Idealize.SL.Sem Idealize.ShloMosaic.StableHlo

/-- From memories that agree on the argument, the reference's result is the kernel's: each element of either is the first
    column of the greatest score of its row. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Line.final m' c (Proc.devRef .tc Cert.ReferenceIdeal.main_v45) = Cert.KernelIdeal.Block.result m c := by
  funext y
  have ha : Cert.ReferenceIdeal.Line.final m' c (Proc.devRef .tc Cert.ReferenceIdeal.main_arg0)
      = m' ((c.tc : Thread Cert.ReferenceIdeal.nD Cert.ReferenceIdeal.τ).loc Cert.ReferenceIdeal.main_arg0) :=
    Cert.ReferenceIdeal.Line.final_arg m' c
  have hr := Cert.ReferenceIdeal.Line.result_first _ (Cert.ReferenceIdeal.Line.final_holds m' c)
    (Cert.KernelIdeal.Block.logits m c) (ha.trans h) y
  exact hr.unique (Cert.KernelIdeal.Block.result_first m c y)

/-- The idealized kernel and the reference run, end with equal results and keep their arguments. -/
theorem equal : Cert.algebraic_KernelIdeal_ReferenceIdeal := fun m g m' g' _ h =>
  ⟨Cert.KernelIdeal.Block.result m, Cert.KernelIdeal.Block.run_result m g,
    (θ_run (Cert.ReferenceIdeal.defs (F := Ideal)) _ _).mono (fun _ k c =>
      ⟨(k.1 c Cert.ReferenceIdeal.main_v45).trans (results_agree m m' c (h c)),
        (k.1 c Cert.ReferenceIdeal.main_arg0).trans (Cert.ReferenceIdeal.Line.final_arg m' c)⟩)
      (Cert.ReferenceIdeal.Line.run_ref (F := Ideal) m' g')⟩

end Cert.Equal

end
-- ==== Proof.lean ====
/- The claim: both kernels and the reference run and keep their argument, the idealized kernel is the kernel over the
   extended reals, and its result is the reference's. -/
module

public import proofs.«01_k».proof.Defs
public import proofs.«01_k».proof.Proof.Printed
public import proofs.«01_k».proof.Proof.Equal

@[expose] public section

noncomputable section

namespace Cert.Proof

/-- Everything that is claimed. -/
theorem claim : Cert.Claim :=
  ⟨Cert.Kernel.Gen.facts, Cert.KernelIdeal.Gen.facts, Cert.ReferenceIdeal.Gen.facts, Cert.Printed.printed_frame,
    Cert.Printed.ideal_frame, Cert.ReferenceIdeal.Line.ref_frame, trivial, Cert.Equal.equal⟩

end Cert.Proof

end
